-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S512x512 : Shape := ⟨2, ![512, 512]⟩
abbrev S7x64x512 : Shape := ⟨3, ![7, 64, 512]⟩
abbrev S64x512 : Shape := ⟨2, ![64, 512]⟩
abbrev S7 : Shape := ⟨1, ![7]⟩
abbrev S_ : Shape := ⟨0, ![]⟩
abbrev S1x64x512 : Shape := ⟨3, ![1, 64, 512]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S512x1, .i32⟩
  | .local _ .vmem, ⟨2, _⟩ => ⟨S2x256x512, .f32⟩
  | .local _ .vmem, ⟨3, _⟩ => ⟨S512x512, .f32⟩
  | .local _ .vmem, ⟨4, _⟩ => ⟨S512x512, .bf16⟩
  | .local _ .vmem, ⟨5, _⟩ => ⟨S7x64x512, .bf16⟩
  | .local _ .vmem, ⟨6, _⟩ => ⟨S7x64x512, .bf16⟩
  | .local _ .vmem, ⟨7, _⟩ => ⟨S64x512, .bf16⟩
  | .local _ .vmem, ⟨8, _⟩ => ⟨S7x64x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 2 → Nat :=
  let c64_i32 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_74 : BitVec 32 := 1#32
  let v122 : BitVec 32 := Scalar.addi v2 c1_i32_74
  let c8_i32_75 : BitVec 32 := 8#32
  let c0_i32_76 : BitVec 32 := 0#32
  let v123 : BitVec 1 := Scalar.cmpi .eq c8_i32_75 c0_i32_76
  let c1_i32_77 : BitVec 32 := 1#32
  let v124 : BitVec 32 := Scalar.select v123 c1_i32_77 c8_i32_75
  let v125 : BitVec 32 := Scalar.remsi v122 v124
  let c0_i32_79 : BitVec 32 := 0#32
  let v127 : BitVec 1 := Scalar.cmpi .slt v125 c0_i32_79
  let c0_i32_80 : BitVec 32 := 0#32
  let v128 : BitVec 1 := Scalar.cmpi .slt v124 c0_i32_80
  let v129 : BitVec 1 := Scalar.xori v127 v128
  let c0_i32_78 : BitVec 32 := 0#32
  let v126 : BitVec 1 := Scalar.cmpi .ne v125 c0_i32_78
  let v130 : BitVec 1 := Scalar.andi v129 v126
  let v131 : BitVec 32 := Scalar.addi v125 v124
  let v132 : BitVec 32 := Scalar.select v130 v131 v125
  let v133 : BitVec 32 := Scalar.muli c64_i32 v132
  let v134 : Index := Scalar.indexCast v133
  let c0_81 : Index := 0#32
  ![v134.toNat, 0]
def k0_dev8 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_87 : BitVec 32 := 0#32
  let v141 : BitVec 32 := Scalar.addi v2 c0_i32_87
  let c1_i32_88 : BitVec 32 := 1#32
  let v142 : BitVec 32 := Scalar.addi v141 c1_i32_88
  let c8_i32_89 : BitVec 32 := 8#32
  let c0_i32_90 : BitVec 32 := 0#32
  let v143 : BitVec 1 := Scalar.cmpi .eq c8_i32_89 c0_i32_90
  let c1_i32_91 : BitVec 32 := 1#32
  let v144 : BitVec 32 := Scalar.select v143 c1_i32_91 c8_i32_89
  let v145 : BitVec 32 := Scalar.remsi v142 v144
  let c0_i32_93 : BitVec 32 := 0#32
  let v147 : BitVec 1 := Scalar.cmpi .slt v145 c0_i32_93
  let c0_i32_94 : BitVec 32 := 0#32
  let v148 : BitVec 1 := Scalar.cmpi .slt v144 c0_i32_94
  let v149 : BitVec 1 := Scalar.xori v147 v148
  let c0_i32_92 : BitVec 32 := 0#32
  let v146 : BitVec 1 := Scalar.cmpi .ne v145 c0_i32_92
  let v150 : BitVec 1 := Scalar.andi v149 v146
  let v151 : BitVec 32 := Scalar.addi v145 v144
  let v152 : BitVec 32 := Scalar.select v150 v151 v145
  let c1_i32_99 : BitVec 32 := 1#32
  let v153 : BitVec 32 := Scalar.muli v152 c1_i32_99
  let v154 : BitVec 32 := Scalar.addi c0_i32_100 v153
  v154.toNat
def k0_off2 (d0 : Dev nD) (c0_i32_105 : BitVec 32) (c2_i32_106 : BitVec 32) : Fin 2 → Nat :=
  let c64_i32_113 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v163 : BitVec 32 := Scalar.addi v2 c0_i32_105
  let v164 : BitVec 32 := Scalar.addi v163 c2_i32_106
  let c8_i32_107 : BitVec 32 := 8#32
  let c0_i32_108 : BitVec 32 := 0#32
  let v165 : BitVec 1 := Scalar.cmpi .eq c8_i32_107 c0_i32_108
  let c1_i32_109 : BitVec 32 := 1#32
  let v166 : BitVec 32 := Scalar.select v165 c1_i32_109 c8_i32_107
  let v167 : BitVec 32 := Scalar.remsi v164 v166
  let c0_i32_111 : BitVec 32 := 0#32
  let v169 : BitVec 1 := Scalar.cmpi .slt v167 c0_i32_111
  let c0_i32_112 : BitVec 32 := 0#32
  let v170 : BitVec 1 := Scalar.cmpi .slt v166 c0_i32_112
  let v171 : BitVec 1 := Scalar.xori v169 v170
  let c0_i32_110 : BitVec 32 := 0#32
  let v168 : BitVec 1 := Scalar.cmpi .ne v167 c0_i32_110
  let v172 : BitVec 1 := Scalar.andi v171 v168
  let v173 : BitVec 32 := Scalar.addi v167 v166
  let v174 : BitVec 32 := Scalar.select v172 v173 v167
  let v175 : BitVec 32 := Scalar.muli c64_i32_113 v174
  let v176 : Index := Scalar.indexCast v175
  let c0_114 : Index := 0#32
  ![v176.toNat, 0]
def k0_off2_at (r : Fin 13) : BitVec 32 × BitVec 32 :=
  if r.val < 6 then
    if r.val < 3 then
      if r.val < 1 then
        (0#32, 2#32)
      else
        if r.val < 2 then
          (1#32, 2#32)
        else
          (2#32, 2#32)
    else
      if r.val < 4 then
        (3#32, 2#32)
      else
        if r.val < 5 then
          (4#32, 2#32)
        else
          (5#32, 2#32)
  else
    if r.val < 9 then
      if r.val < 7 then
        (6#32, 1#32)
      else
        if r.val < 8 then
          (5#32, 1#32)
        else
          (4#32, 1#32)
    else
      if r.val < 11 then
        if r.val < 10 then
          (3#32, 1#32)
        else
          (2#32, 1#32)
      else
        if r.val < 12 then
          (1#32, 1#32)
        else
          (0#32, 1#32)
def k0_dev9 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_118 : BitVec 32 := 1#32
  let v183 : BitVec 32 := Scalar.addi v2 c1_i32_118
  let c1_i32_119 : BitVec 32 := 1#32
  let v184 : BitVec 32 := Scalar.addi v183 c1_i32_119
  let c8_i32_120 : BitVec 32 := 8#32
  let c0_i32_121 : BitVec 32 := 0#32
  let v185 : BitVec 1 := Scalar.cmpi .eq c8_i32_120 c0_i32_121
  let c1_i32_122 : BitVec 32 := 1#32
  let v186 : BitVec 32 := Scalar.select v185 c1_i32_122 c8_i32_120
  let v187 : BitVec 32 := Scalar.remsi v184 v186
  let c0_i32_124 : BitVec 32 := 0#32
  let v189 : BitVec 1 := Scalar.cmpi .slt v187 c0_i32_124
  let c0_i32_125 : BitVec 32 := 0#32
  let v190 : BitVec 1 := Scalar.cmpi .slt v186 c0_i32_125
  let v191 : BitVec 1 := Scalar.xori v189 v190
  let c0_i32_123 : BitVec 32 := 0#32
  let v188 : BitVec 1 := Scalar.cmpi .ne v187 c0_i32_123
  let v192 : BitVec 1 := Scalar.andi v191 v188
  let v193 : BitVec 32 := Scalar.addi v187 v186
  let v194 : BitVec 32 := Scalar.select v192 v193 v187
  let c1_i32_130 : BitVec 32 := 1#32
  let v195 : BitVec 32 := Scalar.muli v194 c1_i32_130
  let v196 : BitVec 32 := Scalar.addi c0_i32_131 v195
  v196.toNat
def k0_dev10 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_149 : BitVec 32 := 2#32
  let v225 : BitVec 32 := Scalar.addi v2 c2_i32_149
  let c1_i32_150 : BitVec 32 := 1#32
  let v226 : BitVec 32 := Scalar.addi v225 c1_i32_150
  let c8_i32_151 : BitVec 32 := 8#32
  let c0_i32_152 : BitVec 32 := 0#32
  let v227 : BitVec 1 := Scalar.cmpi .eq c8_i32_151 c0_i32_152
  let c1_i32_153 : BitVec 32 := 1#32
  let v228 : BitVec 32 := Scalar.select v227 c1_i32_153 c8_i32_151
  let v229 : BitVec 32 := Scalar.remsi v226 v228
  let c0_i32_155 : BitVec 32 := 0#32
  let v231 : BitVec 1 := Scalar.cmpi .slt v229 c0_i32_155
  let c0_i32_156 : BitVec 32 := 0#32
  let v232 : BitVec 1 := Scalar.cmpi .slt v228 c0_i32_156
  let v233 : BitVec 1 := Scalar.xori v231 v232
  let c0_i32_154 : BitVec 32 := 0#32
  let v230 : BitVec 1 := Scalar.cmpi .ne v229 c0_i32_154
  let v234 : BitVec 1 := Scalar.andi v233 v230
  let v235 : BitVec 32 := Scalar.addi v229 v228
  let v236 : BitVec 32 := Scalar.select v234 v235 v229
  let c1_i32_161 : BitVec 32 := 1#32
  let v237 : BitVec 32 := Scalar.muli v236 c1_i32_161
  let v238 : BitVec 32 := Scalar.addi c0_i32_162 v237
  v238.toNat
def k0_dev11 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_180 : BitVec 32 := 3#32
  let v267 : BitVec 32 := Scalar.addi v2 c3_i32_180
  let c1_i32_181 : BitVec 32 := 1#32
  let v268 : BitVec 32 := Scalar.addi v267 c1_i32_181
  let c8_i32_182 : BitVec 32 := 8#32
  let c0_i32_183 : BitVec 32 := 0#32
  let v269 : BitVec 1 := Scalar.cmpi .eq c8_i32_182 c0_i32_183
  let c1_i32_184 : BitVec 32 := 1#32
  let v270 : BitVec 32 := Scalar.select v269 c1_i32_184 c8_i32_182
  let v271 : BitVec 32 := Scalar.remsi v268 v270
  let c0_i32_186 : BitVec 32 := 0#32
  let v273 : BitVec 1 := Scalar.cmpi .slt v271 c0_i32_186
  let c0_i32_187 : BitVec 32 := 0#32
  let v274 : BitVec 1 := Scalar.cmpi .slt v270 c0_i32_187
  let v275 : BitVec 1 := Scalar.xori v273 v274
  let c0_i32_185 : BitVec 32 := 0#32
  let v272 : BitVec 1 := Scalar.cmpi .ne v271 c0_i32_185
  let v276 : BitVec 1 := Scalar.andi v275 v272
  let v277 : BitVec 32 := Scalar.addi v271 v270
  let v278 : BitVec 32 := Scalar.select v276 v277 v271
  let c1_i32_192 : BitVec 32 := 1#32
  let v279 : BitVec 32 := Scalar.muli v278 c1_i32_192
  let v280 : BitVec 32 := Scalar.addi c0_i32_193 v279
  v280.toNat
def k0_dev12 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_211 : BitVec 32 := 4#32
  let v309 : BitVec 32 := Scalar.addi v2 c4_i32_211
  let c1_i32_212 : BitVec 32 := 1#32
  let v310 : BitVec 32 := Scalar.addi v309 c1_i32_212
  let c8_i32_213 : BitVec 32 := 8#32
  let c0_i32_214 : BitVec 32 := 0#32
  let v311 : BitVec 1 := Scalar.cmpi .eq c8_i32_213 c0_i32_214
  let c1_i32_215 : BitVec 32 := 1#32
  let v312 : BitVec 32 := Scalar.select v311 c1_i32_215 c8_i32_213
  let v313 : BitVec 32 := Scalar.remsi v310 v312
  let c0_i32_217 : BitVec 32 := 0#32
  let v315 : BitVec 1 := Scalar.cmpi .slt v313 c0_i32_217
  let c0_i32_218 : BitVec 32 := 0#32
  let v316 : BitVec 1 := Scalar.cmpi .slt v312 c0_i32_218
  let v317 : BitVec 1 := Scalar.xori v315 v316
  let c0_i32_216 : BitVec 32 := 0#32
  let v314 : BitVec 1 := Scalar.cmpi .ne v313 c0_i32_216
  let v318 : BitVec 1 := Scalar.andi v317 v314
  let v319 : BitVec 32 := Scalar.addi v313 v312
  let v320 : BitVec 32 := Scalar.select v318 v319 v313
  let c1_i32_223 : BitVec 32 := 1#32
  let v321 : BitVec 32 := Scalar.muli v320 c1_i32_223
  let v322 : BitVec 32 := Scalar.addi c0_i32_224 v321
  v322.toNat
def k0_dev13 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_242 : BitVec 32 := 5#32
  let v351 : BitVec 32 := Scalar.addi v2 c5_i32_242
  let c1_i32_243 : BitVec 32 := 1#32
  let v352 : BitVec 32 := Scalar.addi v351 c1_i32_243
  let c8_i32_244 : BitVec 32 := 8#32
  let c0_i32_245 : BitVec 32 := 0#32
  let v353 : BitVec 1 := Scalar.cmpi .eq c8_i32_244 c0_i32_245
  let c1_i32_246 : BitVec 32 := 1#32
  let v354 : BitVec 32 := Scalar.select v353 c1_i32_246 c8_i32_244
  let v355 : BitVec 32 := Scalar.remsi v352 v354
  let c0_i32_248 : BitVec 32 := 0#32
  let v357 : BitVec 1 := Scalar.cmpi .slt v355 c0_i32_248
  let c0_i32_249 : BitVec 32 := 0#32
  let v358 : BitVec 1 := Scalar.cmpi .slt v354 c0_i32_249
  let v359 : BitVec 1 := Scalar.xori v357 v358
  let c0_i32_247 : BitVec 32 := 0#32
  let v356 : BitVec 1 := Scalar.cmpi .ne v355 c0_i32_247
  let v360 : BitVec 1 := Scalar.andi v359 v356
  let v361 : BitVec 32 := Scalar.addi v355 v354
  let v362 : BitVec 32 := Scalar.select v360 v361 v355
  let c1_i32_254 : BitVec 32 := 1#32
  let v363 : BitVec 32 := Scalar.muli v362 c1_i32_254
  let v364 : BitVec 32 := Scalar.addi c0_i32_255 v363
  v364.toNat
def k0_dev14 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_273 : BitVec 32 := 6#32
  let v393 : BitVec 32 := Scalar.addi v2 c6_i32_273
  let c1_i32_274 : BitVec 32 := 1#32
  let v394 : BitVec 32 := Scalar.addi v393 c1_i32_274
  let c8_i32_275 : BitVec 32 := 8#32
  let c0_i32_276 : BitVec 32 := 0#32
  let v395 : BitVec 1 := Scalar.cmpi .eq c8_i32_275 c0_i32_276
  let c1_i32_277 : BitVec 32 := 1#32
  let v396 : BitVec 32 := Scalar.select v395 c1_i32_277 c8_i32_275
  let v397 : BitVec 32 := Scalar.remsi v394 v396
  let c0_i32_279 : BitVec 32 := 0#32
  let v399 : BitVec 1 := Scalar.cmpi .slt v397 c0_i32_279
  let c0_i32_280 : BitVec 32 := 0#32
  let v400 : BitVec 1 := Scalar.cmpi .slt v396 c0_i32_280
  let v401 : BitVec 1 := Scalar.xori v399 v400
  let c0_i32_278 : BitVec 32 := 0#32
  let v398 : BitVec 1 := Scalar.cmpi .ne v397 c0_i32_278
  let v402 : BitVec 1 := Scalar.andi v401 v398
  let v403 : BitVec 32 := Scalar.addi v397 v396
  let v404 : BitVec 32 := Scalar.select v402 v403 v397
  let c1_i32_285 : BitVec 32 := 1#32
  let v405 : BitVec 32 := Scalar.muli v404 c1_i32_285
  let v406 : BitVec 32 := Scalar.addi c0_i32_286 v405
  v406.toNat
def k0_off3 (d0 : Dev nD) : Fin 2 → Nat :=
  let c64_i32_291 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v415 : BitVec 32 := Scalar.muli c64_i32_291 v2
  let v416 : Index := Scalar.indexCast v415
  let c0_292 : Index := 0#32
  ![v416.toNat, 0]
def k0_dev15 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_389 : BitVec 32 := 0#32
  let v510 : BitVec 32 := Scalar.addi v2 c0_i32_389
  let c1_i32_390 : BitVec 32 := 1#32
  let v511 : BitVec 32 := Scalar.addi v510 c1_i32_390
  let c8_i32_391 : BitVec 32 := 8#32
  let c0_i32_392 : BitVec 32 := 0#32
  let v512 : BitVec 1 := Scalar.cmpi .eq c8_i32_391 c0_i32_392
  let c1_i32_393 : BitVec 32 := 1#32
  let v513 : BitVec 32 := Scalar.select v512 c1_i32_393 c8_i32_391
  let v514 : BitVec 32 := Scalar.remsi v511 v513
  let c0_i32_395 : BitVec 32 := 0#32
  let v516 : BitVec 1 := Scalar.cmpi .slt v514 c0_i32_395
  let c0_i32_396 : BitVec 32 := 0#32
  let v517 : BitVec 1 := Scalar.cmpi .slt v513 c0_i32_396
  let v518 : BitVec 1 := Scalar.xori v516 v517
  let c0_i32_394 : BitVec 32 := 0#32
  let v515 : BitVec 1 := Scalar.cmpi .ne v514 c0_i32_394
  let v519 : BitVec 1 := Scalar.andi v518 v515
  let v520 : BitVec 32 := Scalar.addi v514 v513
  let v521 : BitVec 32 := Scalar.select v519 v520 v514
  let c1_i32_400 : BitVec 32 := 1#32
  let v522 : BitVec 32 := Scalar.muli v521 c1_i32_400
  let v523 : BitVec 32 := Scalar.addi c0_i32_401 v522
  v523.toNat
def k0_dev16 (d0 : Dev nD) : Nat :=
  let c0_i32_416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_404 : BitVec 32 := 1#32
  let v530 : BitVec 32 := Scalar.addi v2 c1_i32_404
  let c1_i32_405 : BitVec 32 := 1#32
  let v531 : BitVec 32 := Scalar.addi v530 c1_i32_405
  let c8_i32_406 : BitVec 32 := 8#32
  let c0_i32_407 : BitVec 32 := 0#32
  let v532 : BitVec 1 := Scalar.cmpi .eq c8_i32_406 c0_i32_407
  let c1_i32_408 : BitVec 32 := 1#32
  let v533 : BitVec 32 := Scalar.select v532 c1_i32_408 c8_i32_406
  let v534 : BitVec 32 := Scalar.remsi v531 v533
  let c0_i32_410 : BitVec 32 := 0#32
  let v536 : BitVec 1 := Scalar.cmpi .slt v534 c0_i32_410
  let c0_i32_411 : BitVec 32 := 0#32
  let v537 : BitVec 1 := Scalar.cmpi .slt v533 c0_i32_411
  let v538 : BitVec 1 := Scalar.xori v536 v537
  let c0_i32_409 : BitVec 32 := 0#32
  let v535 : BitVec 1 := Scalar.cmpi .ne v534 c0_i32_409
  let v539 : BitVec 1 := Scalar.andi v538 v535
  let v540 : BitVec 32 := Scalar.addi v534 v533
  let v541 : BitVec 32 := Scalar.select v539 v540 v534
  let c1_i32_415 : BitVec 32 := 1#32
  let v542 : BitVec 32 := Scalar.muli v541 c1_i32_415
  let v543 : BitVec 32 := Scalar.addi c0_i32_416 v542
  v543.toNat
def k0_dev17 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_419 : BitVec 32 := 2#32
  let v550 : BitVec 32 := Scalar.addi v2 c2_i32_419
  let c1_i32_420 : BitVec 32 := 1#32
  let v551 : BitVec 32 := Scalar.addi v550 c1_i32_420
  let c8_i32_421 : BitVec 32 := 8#32
  let c0_i32_422 : BitVec 32 := 0#32
  let v552 : BitVec 1 := Scalar.cmpi .eq c8_i32_421 c0_i32_422
  let c1_i32_423 : BitVec 32 := 1#32
  let v553 : BitVec 32 := Scalar.select v552 c1_i32_423 c8_i32_421
  let v554 : BitVec 32 := Scalar.remsi v551 v553
  let c0_i32_425 : BitVec 32 := 0#32
  let v556 : BitVec 1 := Scalar.cmpi .slt v554 c0_i32_425
  let c0_i32_426 : BitVec 32 := 0#32
  let v557 : BitVec 1 := Scalar.cmpi .slt v553 c0_i32_426
  let v558 : BitVec 1 := Scalar.xori v556 v557
  let c0_i32_424 : BitVec 32 := 0#32
  let v555 : BitVec 1 := Scalar.cmpi .ne v554 c0_i32_424
  let v559 : BitVec 1 := Scalar.andi v558 v555
  let v560 : BitVec 32 := Scalar.addi v554 v553
  let v561 : BitVec 32 := Scalar.select v559 v560 v554
  let c1_i32_430 : BitVec 32 := 1#32
  let v562 : BitVec 32 := Scalar.muli v561 c1_i32_430
  let v563 : BitVec 32 := Scalar.addi c0_i32_431 v562
  v563.toNat
def k0_dev18 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_434 : BitVec 32 := 3#32
  let v570 : BitVec 32 := Scalar.addi v2 c3_i32_434
  let c1_i32_435 : BitVec 32 := 1#32
  let v571 : BitVec 32 := Scalar.addi v570 c1_i32_435
  let c8_i32_436 : BitVec 32 := 8#32
  let c0_i32_437 : BitVec 32 := 0#32
  let v572 : BitVec 1 := Scalar.cmpi .eq c8_i32_436 c0_i32_437
  let c1_i32_438 : BitVec 32 := 1#32
  let v573 : BitVec 32 := Scalar.select v572 c1_i32_438 c8_i32_436
  let v574 : BitVec 32 := Scalar.remsi v571 v573
  let c0_i32_440 : BitVec 32 := 0#32
  let v576 : BitVec 1 := Scalar.cmpi .slt v574 c0_i32_440
  let c0_i32_441 : BitVec 32 := 0#32
  let v577 : BitVec 1 := Scalar.cmpi .slt v573 c0_i32_441
  let v578 : BitVec 1 := Scalar.xori v576 v577
  let c0_i32_439 : BitVec 32 := 0#32
  let v575 : BitVec 1 := Scalar.cmpi .ne v574 c0_i32_439
  let v579 : BitVec 1 := Scalar.andi v578 v575
  let v580 : BitVec 32 := Scalar.addi v574 v573
  let v581 : BitVec 32 := Scalar.select v579 v580 v574
  let c1_i32_445 : BitVec 32 := 1#32
  let v582 : BitVec 32 := Scalar.muli v581 c1_i32_445
  let v583 : BitVec 32 := Scalar.addi c0_i32_446 v582
  v583.toNat
def k0_dev19 (d0 : Dev nD) : Nat :=
  let c0_i32_461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_449 : BitVec 32 := 4#32
  let v590 : BitVec 32 := Scalar.addi v2 c4_i32_449
  let c1_i32_450 : BitVec 32 := 1#32
  let v591 : BitVec 32 := Scalar.addi v590 c1_i32_450
  let c8_i32_451 : BitVec 32 := 8#32
  let c0_i32_452 : BitVec 32 := 0#32
  let v592 : BitVec 1 := Scalar.cmpi .eq c8_i32_451 c0_i32_452
  let c1_i32_453 : BitVec 32 := 1#32
  let v593 : BitVec 32 := Scalar.select v592 c1_i32_453 c8_i32_451
  let v594 : BitVec 32 := Scalar.remsi v591 v593
  let c0_i32_455 : BitVec 32 := 0#32
  let v596 : BitVec 1 := Scalar.cmpi .slt v594 c0_i32_455
  let c0_i32_456 : BitVec 32 := 0#32
  let v597 : BitVec 1 := Scalar.cmpi .slt v593 c0_i32_456
  let v598 : BitVec 1 := Scalar.xori v596 v597
  let c0_i32_454 : BitVec 32 := 0#32
  let v595 : BitVec 1 := Scalar.cmpi .ne v594 c0_i32_454
  let v599 : BitVec 1 := Scalar.andi v598 v595
  let v600 : BitVec 32 := Scalar.addi v594 v593
  let v601 : BitVec 32 := Scalar.select v599 v600 v594
  let c1_i32_460 : BitVec 32 := 1#32
  let v602 : BitVec 32 := Scalar.muli v601 c1_i32_460
  let v603 : BitVec 32 := Scalar.addi c0_i32_461 v602
  v603.toNat
def k0_dev20 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_464 : BitVec 32 := 5#32
  let v610 : BitVec 32 := Scalar.addi v2 c5_i32_464
  let c1_i32_465 : BitVec 32 := 1#32
  let v611 : BitVec 32 := Scalar.addi v610 c1_i32_465
  let c8_i32_466 : BitVec 32 := 8#32
  let c0_i32_467 : BitVec 32 := 0#32
  let v612 : BitVec 1 := Scalar.cmpi .eq c8_i32_466 c0_i32_467
  let c1_i32_468 : BitVec 32 := 1#32
  let v613 : BitVec 32 := Scalar.select v612 c1_i32_468 c8_i32_466
  let v614 : BitVec 32 := Scalar.remsi v611 v613
  let c0_i32_470 : BitVec 32 := 0#32
  let v616 : BitVec 1 := Scalar.cmpi .slt v614 c0_i32_470
  let c0_i32_471 : BitVec 32 := 0#32
  let v617 : BitVec 1 := Scalar.cmpi .slt v613 c0_i32_471
  let v618 : BitVec 1 := Scalar.xori v616 v617
  let c0_i32_469 : BitVec 32 := 0#32
  let v615 : BitVec 1 := Scalar.cmpi .ne v614 c0_i32_469
  let v619 : BitVec 1 := Scalar.andi v618 v615
  let v620 : BitVec 32 := Scalar.addi v614 v613
  let v621 : BitVec 32 := Scalar.select v619 v620 v614
  let c1_i32_475 : BitVec 32 := 1#32
  let v622 : BitVec 32 := Scalar.muli v621 c1_i32_475
  let v623 : BitVec 32 := Scalar.addi c0_i32_476 v622
  v623.toNat
def k0_dev21 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_479 : BitVec 32 := 6#32
  let v630 : BitVec 32 := Scalar.addi v2 c6_i32_479
  let c1_i32_480 : BitVec 32 := 1#32
  let v631 : BitVec 32 := Scalar.addi v630 c1_i32_480
  let c8_i32_481 : BitVec 32 := 8#32
  let c0_i32_482 : BitVec 32 := 0#32
  let v632 : BitVec 1 := Scalar.cmpi .eq c8_i32_481 c0_i32_482
  let c1_i32_483 : BitVec 32 := 1#32
  let v633 : BitVec 32 := Scalar.select v632 c1_i32_483 c8_i32_481
  let v634 : BitVec 32 := Scalar.remsi v631 v633
  let c0_i32_485 : BitVec 32 := 0#32
  let v636 : BitVec 1 := Scalar.cmpi .slt v634 c0_i32_485
  let c0_i32_486 : BitVec 32 := 0#32
  let v637 : BitVec 1 := Scalar.cmpi .slt v633 c0_i32_486
  let v638 : BitVec 1 := Scalar.xori v636 v637
  let c0_i32_484 : BitVec 32 := 0#32
  let v635 : BitVec 1 := Scalar.cmpi .ne v634 c0_i32_484
  let v639 : BitVec 1 := Scalar.andi v638 v635
  let v640 : BitVec 32 := Scalar.addi v634 v633
  let v641 : BitVec 32 := Scalar.select v639 v640 v634
  let c1_i32_490 : BitVec 32 := 1#32
  let v642 : BitVec 32 := Scalar.muli v641 c1_i32_490
  let v643 : BitVec 32 := Scalar.addi c0_i32_491 v642
  v643.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S_ : Shape := ⟨0, ![]⟩
abbrev S512x512 : Shape := ⟨2, ![512, 512]⟩
abbrev S1x256x512 : Shape := ⟨3, ![1, 256, 512]⟩
abbrev S256x512 : Shape := ⟨2, ![256, 512]⟩

abbrev nBuf : Space → Nat
  | .hbm => 134
  | .vmem => 0
  | .smem => 0
  | _ => 0

abbrev hbmTy0_0 (i : Nat) : BufTy := match i % 128 with
  | 0 => ⟨S512x256, .f32⟩
  | 1 => ⟨S256x16, .f32⟩
  | 2 => ⟨S512x1, .i32⟩
  | 3 => ⟨S16x256x512, .f32⟩
  | 4 => ⟨S_, .f32⟩
  | 5 => ⟨S512x512, .f32⟩
  | 6 => ⟨S_, .i32⟩
  | 7 => ⟨S512x1, .i32⟩
  | 8 => ⟨S512x1, .i1⟩
  | 9 => ⟨S1x256x512, .f32⟩
  | 10 => ⟨S256x512, .f32⟩
  | 11 => ⟨S512x512, .f32⟩
  | 12 => ⟨S512x512, .i1⟩
  | 13 => ⟨S512x512, .f32⟩
  | 14 => ⟨S_, .i32⟩
  | 15 => ⟨S512x1, .i32⟩
  | 16 => ⟨S512x1, .i1⟩
  | 17 => ⟨S1x256x512, .f32⟩
  | 18 => ⟨S256x512, .f32⟩
  | 19 => ⟨S512x512, .f32⟩
  | 20 => ⟨S512x512, .i1⟩
  | 21 => ⟨S512x512, .f32⟩
  | 22 => ⟨S_, .i32⟩
  | 23 => ⟨S512x1, .i32⟩
  | 24 => ⟨S512x1, .i1⟩
  | 25 => ⟨S1x256x512, .f32⟩
  | 26 => ⟨S256x512, .f32⟩
  | 27 => ⟨S512x512, .f32⟩
  | 28 => ⟨S512x512, .i1⟩
  | 29 => ⟨S512x512, .f32⟩
  | 30 => ⟨S_, .i32⟩
  | 31 => ⟨S512x1, .i32⟩
  | 32 => ⟨S512x1, .i1⟩
  | 33 => ⟨S1x256x512, .f32⟩
  | 34 => ⟨S256x512, .f32⟩
  | 35 => ⟨S512x512, .f32⟩
  | 36 => ⟨S512x512, .i1⟩
  | 37 => ⟨S512x512, .f32⟩
  | 38 => ⟨S_, .i32⟩
  | 39 => ⟨S512x1, .i32⟩
  | 40 => ⟨S512x1, .i1⟩
  | 41 => ⟨S1x256x512, .f32⟩
  | 42 => ⟨S256x512, .f32⟩
  | 43 => ⟨S512x512, .f32⟩
  | 44 => ⟨S512x512, .i1⟩
  | 45 => ⟨S512x512, .f32⟩
  | 46 => ⟨S_, .i32⟩
  | 47 => ⟨S512x1, .i32⟩
  | 48 => ⟨S512x1, .i1⟩
  | 49 => ⟨S1x256x512, .f32⟩
  | 50 => ⟨S256x512, .f32⟩
  | 51 => ⟨S512x512, .f32⟩
  | 52 => ⟨S512x512, .i1⟩
  | 53 => ⟨S512x512, .f32⟩
  | 54 => ⟨S_, .i32⟩
  | 55 => ⟨S512x1, .i32⟩
  | 56 => ⟨S512x1, .i1⟩
  | 57 => ⟨S1x256x512, .f32⟩
  | 58 => ⟨S256x512, .f32⟩
  | 59 => ⟨S512x512, .f32⟩
  | 60 => ⟨S512x512, .i1⟩
  | 61 => ⟨S512x512, .f32⟩
  | 62 => ⟨S_, .i32⟩
  | 63 => ⟨S512x1, .i32⟩
  | 64 => ⟨S512x1, .i1⟩
  | 65 => ⟨S1x256x512, .f32⟩
  | 66 => ⟨S256x512, .f32⟩
  | 67 => ⟨S512x512, .f32⟩
  | 68 => ⟨S512x512, .i1⟩
  | 69 => ⟨S512x512, .f32⟩
  | 70 => ⟨S_, .i32⟩
  | 71 => ⟨S512x1, .i32⟩
  | 72 => ⟨S512x1, .i1⟩
  | 73 => ⟨S1x256x512, .f32⟩
  | 74 => ⟨S256x512, .f32⟩
  | 75 => ⟨S512x512, .f32⟩
  | 76 => ⟨S512x512, .i1⟩
  | 77 => ⟨S512x512, .f32⟩
  | 78 => ⟨S_, .i32⟩
  | 79 => ⟨S512x1, .i32⟩
  | 80 => ⟨S512x1, .i1⟩
  | 81 => ⟨S1x256x512, .f32⟩
  | 82 => ⟨S256x512, .f32⟩
  | 83 => ⟨S512x512, .f32⟩
  | 84 => ⟨S512x512, .i1⟩
  | 85 => ⟨S512x512, .f32⟩
  | 86 => ⟨S_, .i32⟩
  | 87 => ⟨S512x1, .i32⟩
  | 88 => ⟨S512x1, .i1⟩
  | 89 => ⟨S1x256x512, .f32⟩
  | 90 => ⟨S256x512, .f32⟩
  | 91 => ⟨S512x512, .f32⟩
  | 92 => ⟨S512x512, .i1⟩
  | 93 => ⟨S512x512, .f32⟩
  | 94 => ⟨S_, .i32⟩
  | 95 => ⟨S512x1, .i32⟩
  | 96 => ⟨S512x1, .i1⟩
  | 97 => ⟨S1x256x512, .f32⟩
  | 98 => ⟨S256x512, .f32⟩
  | 99 => ⟨S512x512, .f32⟩
  | 100 => ⟨S512x512, .i1⟩
  | 101 => ⟨S512x512, .f32⟩
  | 102 => ⟨S_, .i32⟩
  | 103 => ⟨S512x1, .i32⟩
  | 104 => ⟨S512x1, .i1⟩
  | 105 => ⟨S1x256x512, .f32⟩
  | 106 => ⟨S256x512, .f32⟩
  | 107 => ⟨S512x512, .f32⟩
  | 108 => ⟨S512x512, .i1⟩
  | 109 => ⟨S512x512, .f32⟩
  | 110 => ⟨S_, .i32⟩
  | 111 => ⟨S512x1, .i32⟩
  | 112 => ⟨S512x1, .i1⟩
  | 113 => ⟨S1x256x512, .f32⟩
  | 114 => ⟨S256x512, .f32⟩
  | 115 => ⟨S512x512, .f32⟩
  | 116 => ⟨S512x512, .i1⟩
  | 117 => ⟨S512x512, .f32⟩
  | 118 => ⟨S_, .i32⟩
  | 119 => ⟨S512x1, .i32⟩
  | 120 => ⟨S512x1, .i1⟩
  | 121 => ⟨S1x256x512, .f32⟩
  | 122 => ⟨S256x512, .f32⟩
  | 123 => ⟨S512x512, .f32⟩
  | 124 => ⟨S512x512, .i1⟩
  | 125 => ⟨S512x512, .f32⟩
  | 126 => ⟨S_, .i32⟩
  | 127 => ⟨S512x1, .i32⟩
  | _ => ⟨S512x256, .f32⟩

abbrev hbmTy0_1 (i : Nat) : BufTy := match i % 128 with
  | 0 => ⟨S512x1, .i1⟩
  | 1 => ⟨S1x256x512, .f32⟩
  | 2 => ⟨S256x512, .f32⟩
  | 3 => ⟨S512x512, .f32⟩
  | 4 => ⟨S512x512, .i1⟩
  | 5 => ⟨S512x512, .f32⟩
  | _ => ⟨S512x256, .f32⟩

abbrev hbmTy (i : Nat) : BufTy := match i / 128 with
  | 0 => hbmTy0_0 i
  | 1 => hbmTy0_1 i
  | _ => ⟨S512x256, .f32⟩

abbrev bufTy : (tb : Table) → Fin (tcTables nBuf tb) → BufTy
  | .hbm, ⟨i, _⟩ => hbmTy i
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_v0 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call2_v0 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call3_v0 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call4_v0 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call5_v0 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call6_v0 : Ref sig .tc := ⟨.hbm, 60, rfl⟩
abbrev main_v42 : Ref sig .tc := ⟨.hbm, 61, rfl⟩
abbrev main_c_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call7_v0 : Ref sig .tc := ⟨.hbm, 68, rfl⟩
abbrev main_v48 : Ref sig .tc := ⟨.hbm, 69, rfl⟩
abbrev main_c_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call8_v0 : Ref sig .tc := ⟨.hbm, 76, rfl⟩
abbrev main_v54 : Ref sig .tc := ⟨.hbm, 77, rfl⟩
abbrev main_c_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call9_v0 : Ref sig .tc := ⟨.hbm, 84, rfl⟩
abbrev main_v60 : Ref sig .tc := ⟨.hbm, 85, rfl⟩
abbrev main_c_9 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call10_v0 : Ref sig .tc := ⟨.hbm, 92, rfl⟩
abbrev main_v66 : Ref sig .tc := ⟨.hbm, 93, rfl⟩
abbrev main_c_10 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call11_v0 : Ref sig .tc := ⟨.hbm, 100, rfl⟩
abbrev main_v72 : Ref sig .tc := ⟨.hbm, 101, rfl⟩
abbrev main_c_11 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_call12_v0 : Ref sig .tc := ⟨.hbm, 108, rfl⟩
abbrev main_v78 : Ref sig .tc := ⟨.hbm, 109, rfl⟩
abbrev main_c_12 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call13_v0 : Ref sig .tc := ⟨.hbm, 116, rfl⟩
abbrev main_v84 : Ref sig .tc := ⟨.hbm, 117, rfl⟩
abbrev main_c_13 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call14_v0 : Ref sig .tc := ⟨.hbm, 124, rfl⟩
abbrev main_v90 : Ref sig .tc := ⟨.hbm, 125, rfl⟩
abbrev main_c_14 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_call15_v0 : Ref sig .tc := ⟨.hbm, 132, rfl⟩
abbrev main_v96 : Ref sig .tc := ⟨.hbm, 133, rfl⟩

abbrev nD : Nat := 1
abbrev τ : Topo := Topo.v7x

variable {F : FTy → Type} [FloatOps F]
-- ==== Proof.KernelIdealProto.lean ====
/-
# The protocol of the eight devices

One kernel call per device. Each device signals the barrier semaphore of its seven peers and waits for seven
units on its own; sends every peer one partial product block (reduce-scatter, seven remote copies, slot by slot)
and sums the seven it receives with its own; then sends the sum's block to every peer (all-gather, seven remote
copies out of one buffer) and writes the seven blocks it receives into its result.

This module names the peers, the memory slots and the semaphore cells, states what each cell's signal hands over
(a schedule of the rounds library in which every cell has the single round 0) and evaluates the schedule.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Rounds
public import Idealize.ShloMosaic.Lib.Ring
public import Idealize.ShloMosaic.Lib.Transfers
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duties are numbered by the slot of the peer that pays them. -/
abbrev UX : Type := URounds (GSem nD τ sig) (Fin 7)
/-- The ghost resources: the pipeline's rounds and the protocol's. -/
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory a run starts from. -/
def s₀ : MemSt nD τ sig (Elt F) := ⟨m, fun _ => 0, ρ⟩

/-! ## Peers -/

/-- Peer `j` of device `c` is the device `j + 1` further round. -/
def peer (c : Dev nD) (j : Fin 7) : Dev nD := ⟨(c.val + j.val + 1) % 8, Nat.mod_lt _ (by decide)⟩
/-- The slot counted from the other end. -/
def rev (j : Fin 7) : Fin 7 := ⟨6 - j.val, by omega⟩

/-- Counting from the other end twice is counting from the first. -/
theorem rev_rev (j : Fin 7) : rev (rev j) = j := by revert j; decide
/-- A device is the peer of its peer `j` under the slot counted from the other end. -/
theorem peer_peer (c : Dev nD) (j : Fin 7) : peer (peer c j) (rev j) = c := by revert c j; decide +kernel
/-- The same with the two slots exchanged. -/
theorem peer_peer' (c : Dev nD) (j : Fin 7) : peer (peer c (rev j)) j = c := by revert c j; decide +kernel
/-- The seven peers of a device are different. -/
theorem peer_inj (c : Dev nD) : Function.Injective (peer c) := by revert c; decide +kernel

/-- The devices the kernel computes for its signals and its transfers are the seven peers. -/
theorem sigdev (c : Dev nD) : (⟨k0_dev1 c, k0_dev1_lt c⟩ : Dev nD) = peer c 0 ∧ (⟨k0_dev2 c, k0_dev2_lt c⟩ : Dev nD) = peer c 1
    ∧ (⟨k0_dev3 c, k0_dev3_lt c⟩ : Dev nD) = peer c 2 ∧ (⟨k0_dev4 c, k0_dev4_lt c⟩ : Dev nD) = peer c 3
    ∧ (⟨k0_dev5 c, k0_dev5_lt c⟩ : Dev nD) = peer c 4 ∧ (⟨k0_dev6 c, k0_dev6_lt c⟩ : Dev nD) = peer c 5
    ∧ (⟨k0_dev7 c, k0_dev7_lt c⟩ : Dev nD) = peer c 6 := by revert c; decide +kernel
/-- The same of the seven transfers of the reduce-scatter; -/
theorem rsdev (c : Dev nD) : (⟨k0_dev8 c, k0_dev8_lt c⟩ : Dev nD) = peer c 0 ∧ (⟨k0_dev9 c, k0_dev9_lt c⟩ : Dev nD) = peer c 1
    ∧ (⟨k0_dev10 c, k0_dev10_lt c⟩ : Dev nD) = peer c 2 ∧ (⟨k0_dev11 c, k0_dev11_lt c⟩ : Dev nD) = peer c 3
    ∧ (⟨k0_dev12 c, k0_dev12_lt c⟩ : Dev nD) = peer c 4 ∧ (⟨k0_dev13 c, k0_dev13_lt c⟩ : Dev nD) = peer c 5
    ∧ (⟨k0_dev14 c, k0_dev14_lt c⟩ : Dev nD) = peer c 6 := by revert c; decide +kernel
/-- and of the seven transfers of the all-gather. -/
theorem agdev (c : Dev nD) : (⟨k0_dev15 c, k0_dev15_lt c⟩ : Dev nD) = peer c 0 ∧ (⟨k0_dev16 c, k0_dev16_lt c⟩ : Dev nD) = peer c 1
    ∧ (⟨k0_dev17 c, k0_dev17_lt c⟩ : Dev nD) = peer c 2 ∧ (⟨k0_dev18 c, k0_dev18_lt c⟩ : Dev nD) = peer c 3
    ∧ (⟨k0_dev19 c, k0_dev19_lt c⟩ : Dev nD) = peer c 4 ∧ (⟨k0_dev20 c, k0_dev20_lt c⟩ : Dev nD) = peer c 5
    ∧ (⟨k0_dev21 c, k0_dev21_lt c⟩ : Dev nD) = peer c 6 := by revert c; decide +kernel

/-! ## Memory: seven slots of a buffer, eight row blocks of a matrix -/

abbrev Buf7 := Memref sig .tc .vmem S7x64x512 .bf16

/-- Every slot lies within its buffer. -/
theorem inb7 (j : Fin 7) : ∀ a, (![j.val, 0, 0] : Fin 3 → ℕ) a + S1x64x512.size a ≤ S7x64x512.size a := by revert j; decide +kernel
/-- Slot `j` of a seven-slot buffer, as a rectangle -/
abbrev rect7 (j : Fin 7) : Rect S7x64x512 := Rect.unit (s := S7x64x512) ![j.val, 0, 0] S1x64x512.size (inb7 j)
/-- and as a matrix. -/
abbrev slot (M : Buf7) (j : Fin 7) : Memref sig .tc .vmem S64x512 .bf16 :=
  (M.slice (Rect.unit (s := S7x64x512) ![j.val, 0, 0] S1x64x512.size (inb7 j)) (fun _ => rfl)).squeeze S64x512 squeezes_S1x64x512_S64x512

/-- Every row block lies within the whole array. -/
theorem inb8 (b : Dev nD) : ∀ a, (![64 * b.val, 0] : Fin 2 → ℕ) a + S64x512.size a ≤ S512x512.size a := by revert b; decide +kernel
/-- Row block `b` of a 512 × 512 matrix. -/
abbrev rect8 (b : Dev nD) : Rect S512x512 := Rect.unit (s := S512x512) ![64 * b.val, 0] S64x512.size (inb8 b)

/-- The first row block the kernel multiplies is its first peer's. -/
theorem off1_eq (c : Dev nD) : k0_off1 c = ![64 * (peer c 0).val, 0] := by revert c; decide +kernel
/-- The row blocks the kernel reads and writes between the transfers are its peers', in the order of the program. -/
theorem off2_rs (c : Dev nD) : k0_off2 c 0#32 2#32 = ![64 * (peer c 1).val, 0] ∧ k0_off2 c 1#32 2#32 = ![64 * (peer c 2).val, 0]
    ∧ k0_off2 c 2#32 2#32 = ![64 * (peer c 3).val, 0] ∧ k0_off2 c 3#32 2#32 = ![64 * (peer c 4).val, 0]
    ∧ k0_off2 c 4#32 2#32 = ![64 * (peer c 5).val, 0] ∧ k0_off2 c 5#32 2#32 = ![64 * (peer c 6).val, 0] := by revert c; decide +kernel
/-- The same of the row blocks stored after the all-gather. -/
theorem off2_ag (c : Dev nD) : k0_off2 c 0#32 1#32 = ![64 * (peer c 0).val, 0] ∧ k0_off2 c 1#32 1#32 = ![64 * (peer c 1).val, 0]
    ∧ k0_off2 c 2#32 1#32 = ![64 * (peer c 2).val, 0] ∧ k0_off2 c 3#32 1#32 = ![64 * (peer c 3).val, 0]
    ∧ k0_off2 c 4#32 1#32 = ![64 * (peer c 4).val, 0] ∧ k0_off2 c 5#32 1#32 = ![64 * (peer c 5).val, 0]
    ∧ k0_off2 c 6#32 1#32 = ![64 * (peer c 6).val, 0] := by revert c; decide +kernel

abbrev xM : Memref sig .tc .vmem S512x256 .f32 := Memref.whole cc0_stg0_0
abbrev iM : Memref sig .tc .vmem S512x1 .i32 := Memref.whole cc0_stg1_0
abbrev wM : Memref sig .tc .vmem S2x256x512 .f32 := Memref.whole cc0_stg2_0
abbrev oM : Memref sig .tc .vmem S512x512 .f32 := Memref.whole cc0_stg3_0
abbrev x2M : Memref sig .tc .vmem S512x512 .bf16 := Memref.whole cc0_scratch0
abbrev pM : Buf7 := Memref.whole cc0_scratch1
abbrev rsM : Buf7 := Memref.whole cc0_scratch2
abbrev gM : Memref sig .tc .vmem S64x512 .bf16 := Memref.whole cc0_scratch3
abbrev agM : Buf7 := Memref.whole cc0_scratch4

/-! ## Cells -/

theorem inbS (j : Fin 7) : ∀ a, (![j.val] : Fin 1 → ℕ) a + S1.size a ≤ S7.size a := by revert j; decide +kernel
/-- Semaphore `j` of an array of seven. -/
abbrev semAt (A : DmaSems sig S7) (j : Fin 7) : DmaSem sig :=
  ((A.slice (Rect.unit (s := S7) ![j.val] S1.size (inbS j))).squeeze S_ squeezes_S1_S_).sem

/-- The barrier semaphore. -/
abbrev barS : Sem sig := (SemArray.scalar (sig.barrier 0 rfl) : Sems sig S_).sem

/-- The four semaphore arrays: 0 reduce-scatter sends, 1 its arrivals, 2 all-gather sends, 3 its arrivals. -/
def arrOf (k : Fin 4) : DmaSems sig S7 := match k with
  | 0 => cc0_scratch5 | 1 => cc0_scratch6 | 2 => cc0_scratch7 | 3 => cc0_scratch8
abbrev dmaOf (kj : Fin 4 × Fin 7) : DmaSem sig := semAt (arrOf kj.1) kj.2
/-- Different transfer cells are different semaphores. -/
theorem dmaOf_inj : Function.Injective dmaOf := by decide +kernel

/-- A device's cells: the barrier, and the 28 transfer semaphores. -/
abbrev Key := Unit ⊕ (Fin 4 × Fin 7)
abbrev osem (kj : Fin 4 × Fin 7) : SemLoc sig := .dma (dmaOf kj)
def ksem : Key → SemLoc sig
  | .inl _ => .reg barS
  | .inr kj => osem kj
/-- The same as semaphores of a device; -/
theorem osem_inj : Function.Injective osem := fun a b h => dmaOf_inj (SemLoc.dma.inj h)
/-- and with the barrier's among them. -/
theorem ksem_inj : Function.Injective ksem := by
  rintro (a | a) (b | b) h
  · rfl
  · exact absurd h (fun h => by cases h)
  · exact absurd h (fun h => by cases h)
  · exact congrArg Sum.inr (osem_inj h)

abbrev barCell (c : Dev nD) : GSem nD τ sig := ((c : Thread nD τ), .reg barS)
abbrev dmaCell (c : Dev nD) (k : Fin 4) (j : Fin 7) : GSem nD τ sig := ((c : Thread nD τ), .dma (dmaOf (k, j)))
abbrev kcell (ck : Dev nD × Key) : GSem nD τ sig := ((ck.1 : Thread nD τ), ksem ck.2)

/-- The units of one transfer. -/
abbrev N : ℕ := (gM : Memref sig .tc .vmem S64x512 .bf16).view.dmaCredit
/-- A transfer counts at least one unit. -/
theorem N_pos : 0 < N := View.dmaCredit_pos _ (by decide)

/-! ## Contents -/

/-- What the pipeline stages on device `c`: the tokens, their experts, the device's two weight matrices. -/
def xstg (c : Dev nD) : (cc0_stg0_0 : Ref sig .tc).ty.Contents (Elt F) :=
  (win0_0.blk (0 : Fin 1)).view.read (Elt F) ((s₀ m ρ).mem ((c : Thread nD τ).loc main_arg0))
def istg (c : Dev nD) : (cc0_stg1_0 : Ref sig .tc).ty.Contents (Elt F) :=
  (win0_1.blk (0 : Fin 1)).view.read (Elt F) ((s₀ m ρ).mem ((c : Thread nD τ).loc main_arg2))
def wstg (c : Dev nD) : (cc0_stg2_0 : Ref sig .tc).ty.Contents (Elt F) :=
  (win0_2.blk (0 : Fin 1)).view.read (Elt F) ((s₀ m ρ).mem ((c : Thread nD τ).loc main_arg3))

/-- The device's index on the mesh, as the kernel computes it, and the number of its first expert. -/
abbrev meshWord (c : Dev nD) : BitVec 32 := Scalar.remsi (Scalar.divsi (Dev.word c) 1#32) 8#32
abbrev firstExpert (c : Dev nD) : BitVec 32 := Scalar.muli 2#32 (meshWord c)

/-- The tokens masked for the device's two experts, side by side; its two weight matrices, one under the other. -/
def masked (c : Dev nD) : FVec F S512x512 .bf16 := k0_pay1 (firstExpert c) (istg m ρ c) (xstg m ρ c)
abbrev weights (c : Dev nD) : FVec F S512x512 .bf16 := k0_pay2 (wstg m ρ c)
/-- Row block `b` of the masked tokens. -/
def rows (c b : Dev nD) : Vec F S64x512 .bf16 := x2M.view.readAt (Elt F) (rect8 b).toLoadRect (masked m ρ c)

/-- A slot's matrix with and without its unit axis. -/
def flat (v : Vec F S1x64x512 .bf16) : FVec F S64x512 .bf16 := shapeCast S64x512 v shapeCasts_S1x64x512_S64x512
def unflat (v : FVec F S64x512 .bf16) : Vec F S1x64x512 .bf16 := shapeCast S1x64x512 v shapeCasts_S64x512_S1x64x512
/-- Adding the unit axis and dropping it changes nothing; -/
theorem flat_unflat (v : FVec F S64x512 .bf16) : flat (unflat v) = v := by
  unfold flat unflat; exact shapeCast_shapeCast ..
/-- nor does dropping it and adding it. -/
theorem unflat_flat (v : Vec F S1x64x512 .bf16) : unflat (flat v) = v := by
  unfold flat unflat; exact shapeCast_shapeCast ..

/-- The partial product device `c` sends its peer `j`. -/
def part (c : Dev nD) (j : Fin 7) : FVec F S64x512 .bf16 := flat (k0_pay4 (weights m ρ c) (rows m ρ c (peer c j)))
/-- What lands in slot `s` of device `c` in the reduce-scatter. -/
def inc (c : Dev nD) (s : Fin 7) : FVec F S64x512 .bf16 := part m ρ (peer c s) (rev s)
/-- The eight partial products summed two, two and two on the device's own. -/
abbrev sum4 (c : Dev nD) : FVec F S64x512 .f32 :=
  k0_pay12 (k0_pay10 (weights m ρ c) (rows m ρ c c)) (k0_pay11 (unflat (inc m ρ c 6))) (unflat (inc m ρ c 5)) (unflat (inc m ρ c 4))
abbrev sum6 (c : Dev nD) : FVec F S64x512 .f32 := k0_pay13 (sum4 m ρ c) (unflat (inc m ρ c 3)) (unflat (inc m ρ c 2))
/-- The sum of the eight partial products of row block `c`, and what the device sends of it. -/
def sumF (c : Dev nD) : FVec F S64x512 .f32 := k0_pay14 (sum6 m ρ c) (unflat (inc m ρ c 1)) (unflat (inc m ρ c 0))
def sumB (c : Dev nD) : FVec F S64x512 .bf16 := k0_pay15 (sum6 m ρ c) (unflat (inc m ρ c 1)) (unflat (inc m ρ c 0))

end Cert.KernelIdealRun

end
-- ==== Proof.KernelIdealSched.lean ====
/-
# The schedule

What each cell's signal hands over, evaluated cell by cell; what each device owes at launch; the levels at which
the cells wait.
-/
module

public import proofs.«01_k».proof.Proof.KernelIdealProto

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Payloads -/

/-- A slot at some contents. -/
def slotAny (M : Buf7) (c : Dev nD) (j : Fin 7) : sProp 𝕄 :=
  iprop(∃ f : Buf (Elt F) ((slot M j).view.loc (c : Thread nD τ)), (slot M j).view.loc (c : Thread nD τ) ↦[(slot M j).view.set]{fullShare} f)
/-- A slot holding the matrix `X`. -/
abbrev slotAt (M : Buf7) (c : Dev nD) (j : Fin 7) (X : Vec F S64x512 .bf16) : sProp 𝕄 :=
  owns (c : Thread nD τ) (slot M j) fullShare X
/-- One of the seven shares in which the all-gather's source buffer is read. -/
def sharedAt (c : Dev nD) (j : Fin 7) : sProp 𝕄 :=
  owns (c : Thread nD τ) gM (Transfers.shareTok fullShare 7 j) (sumB m ρ c)

instance slotAny_storable (M : Buf7) (c : Dev nD) (j : Fin 7) : BI.Storable (upEmb : UEmb _ 𝕄) (slotAny (F := F) M c j) := by
  unfold slotAny; infer_instance
instance sharedAt_storable (c : Dev nD) (j : Fin 7) : BI.Storable (upEmb : UEmb _ 𝕄) (sharedAt m ρ c j) := by
  unfold sharedAt; infer_instance

/-- A peer's barrier signal hands over the two slots on the peer that this device will fill. -/
def barPay (c : Dev nD) (s : Fin 7) : sProp 𝕄 :=
  iprop(slotAny rsM (peer c s) (rev s) ∗ slotAny agM (peer c s) (rev s))
/-- A transfer's two signals: the source back at its contents, and the destination slot filled. -/
def dmaPay (c : Dev nD) (k : Fin 4) (j : Fin 7) : sProp 𝕄 := match k with
  | 0 => slotAt pM c j (part m ρ c j)
  | 1 => slotAt rsM c j (inc m ρ c j)
  | 2 => sharedAt m ρ c j
  | 3 => slotAt agM c j (sumB m ρ (peer c j))

open Classical in
/-- Which of a device's cells a semaphore is. -/
def findKey (s : SemLoc sig) : Option Key := if h : ∃ k, ksem k = s then some h.choose else none
/-- The cell of a semaphore of the protocol is found again. -/
theorem findKey_ksem (k : Key) : findKey (ksem k) = some k := by
  have h : ∃ k', ksem k' = ksem k := ⟨k, rfl⟩
  unfold findKey
  rw [dif_pos h]
  exact congrArg some (ksem_inj h.choose_spec)
/-- The same of the barrier's; -/
theorem findKey_bar : findKey (.reg barS) = some (.inl ()) := findKey_ksem (.inl ())
/-- and of a transfer's. -/
theorem findKey_dma (k : Fin 4) (j : Fin 7) : findKey (.dma (dmaOf (k, j))) = some (.inr (k, j)) := findKey_ksem (.inr (k, j))

def dutiesOf : Option Key → Finset (Fin 7)
  | some (.inl _) => Finset.univ
  | some (.inr _) => {0}
  | none => ∅
def amountOf' : Option Key → ℕ
  | some (.inl _) => 1
  | _ => N
def payOf (c : Dev nD) (d : Fin 7) : Option Key → sProp 𝕄
  | some (.inl _) => barPay c d
  | some (.inr kj) => dmaPay m ρ c kj.1 kj.2
  | none => iprop(emp)

/-- The schedule: every cell has one round; the barrier has a duty of one unit for each peer, a transfer's
    semaphore has one duty of the transfer's units. -/
def Rd : Rounds.Schedule (GSem nD τ sig) (Fin 7) 𝕄 where
  duties g r := if r = 0 ∧ g.1.2 = .tc then dutiesOf (findKey g.2) else ∅
  amount g _ _ := amountOf' (findKey g.2)
  payload g _ d := payOf m ρ g.1.1 d (findKey g.2)
  amount_pos g _ _ _ := by
    unfold amountOf'
    split
    · exact Nat.one_pos
    · exact N_pos

instance Rd_storable (g : GSem nD τ sig) (r : ℕ) (d : Fin 7) : BI.Storable (upEmb : UEmb _ 𝕄) ((Rd m ρ).payload g r d) := by
  show BI.Storable _ (payOf m ρ g.1.1 d (findKey g.2))
  unfold payOf barPay dmaPay
  (repeat' split) <;> infer_instance

/-! ## The schedule, cell by cell -/

theorem duties_bar (c : Dev nD) : (Rd (F := F) m ρ).duties (barCell c) 0 = Finset.univ := by
  dsimp only [Rd]
  rw [if_pos ⟨rfl, rfl⟩, findKey_bar]; rfl
/-- A transfer's cell has one duty. -/
theorem duties_dma (c : Dev nD) (k : Fin 4) (j : Fin 7) : (Rd (F := F) m ρ).duties (dmaCell c k j) 0 = {0} := by
  dsimp only [Rd]
  rw [if_pos ⟨rfl, rfl⟩, findKey_dma]; rfl
/-- No cell has a duty after the first round. -/
theorem duties_later (g : GSem nD τ sig) : ∀ r, 1 ≤ r → (Rd (F := F) m ρ).duties g r = ∅ :=
  fun r hr => by dsimp only [Rd]; exact if_neg fun h => by omega
/-- Each barrier signal counts one. -/
theorem amount_bar (c : Dev nD) (d : Fin 7) : (Rd (F := F) m ρ).amount (barCell c) 0 d = 1 := by
  show amountOf' (findKey (.reg barS)) = 1
  rw [findKey_bar]; rfl
/-- Each landing counts a slot's units. -/
theorem amount_dma (c : Dev nD) (k : Fin 4) (j d : Fin 7) : (Rd (F := F) m ρ).amount (dmaCell c k j) 0 d = N := by
  show amountOf' (findKey (.dma (dmaOf (k, j)))) = N
  rw [findKey_dma]; rfl
/-- The barrier cell expects seven units; -/
theorem expect_bar (c : Dev nD) : (Rd (F := F) m ρ).expect (barCell c) 0 = 7 := by
  unfold Schedule.expect Schedule.amountOf
  rw [duties_bar, Finset.sum_congr rfl fun d _ => amount_bar m ρ c d]; rfl
/-- a transfer's cell one slot's. -/
theorem expect_dma (c : Dev nD) (k : Fin 4) (j : Fin 7) : (Rd (F := F) m ρ).expect (dmaCell c k j) 0 = N := by
  unfold Schedule.expect Schedule.amountOf
  rw [duties_dma, Finset.sum_singleton, amount_dma]
/-- What a barrier signal hands over. -/
theorem payload_bar (c : Dev nD) (d : Fin 7) : (Rd (F := F) m ρ).payload (barCell c) 0 d = barPay c d := by
  show payOf m ρ c d (findKey (.reg barS)) = _
  rw [findKey_bar]; rfl
/-- What a landing hands over. -/
theorem payload_dma (c : Dev nD) (k : Fin 4) (j d : Fin 7) : (Rd (F := F) m ρ).payload (dmaCell c k j) 0 d = dmaPay m ρ c k j := by
  show payOf m ρ c d (findKey (.dma (dmaOf (k, j)))) = _
  rw [findKey_dma]; rfl
/-- Waiting for the whole barrier gives what the seven peers hand over. -/
theorem rest_bar (c : Dev nD) :
    bigSep ((Rd (F := F) m ρ).duties (barCell c) 0 \ ∅) (fun d => (Rd (F := F) m ρ).payload (barCell c) 0 d) = bigSep Finset.univ (barPay (F := F) c) := by
  rw [Finset.sdiff_empty, duties_bar]; exact bigSep_congr fun d _ => payload_bar m ρ c d
/-- Waiting for a transfer gives what its landing hands over. -/
theorem rest_dma (c : Dev nD) (k : Fin 4) (j : Fin 7) :
    bigSep ((Rd (F := F) m ρ).duties (dmaCell c k j) 0 \ ∅) (fun d => (Rd (F := F) m ρ).payload (dmaCell c k j) 0 d) = dmaPay m ρ c k j := by
  rw [Finset.sdiff_empty, duties_dma, bigSep_singleton, payload_dma]

/-! ## Counting through the seven slots -/

/-- The resources of the slots not yet worked on, and of those done, after `n` steps. -/
def todo (n : ℕ) (Φ : Fin 7 → sProp 𝕄) : sProp 𝕄 := bigSep (Finset.univ.filter fun j : Fin 7 => n ≤ j.val) Φ
def done (n : ℕ) (Φ : Fin 7 → sProp 𝕄) : sProp 𝕄 := bigSep (Finset.univ.filter fun j : Fin 7 => j.val < n) Φ

/-- The slots from `j` on are `j` and those from `j + 1` on. -/
theorem filter_todo (j : Fin 7) : (Finset.univ.filter fun i : Fin 7 => j.val ≤ i.val) = insert j (Finset.univ.filter fun i : Fin 7 => j.val + 1 ≤ i.val) := by
  revert j; decide
/-- The slots up to `j` are `j` and those before it. -/
theorem filter_done (j : Fin 7) : (Finset.univ.filter fun i : Fin 7 => i.val < j.val + 1) = insert j (Finset.univ.filter fun i : Fin 7 => i.val < j.val) := by
  revert j; decide

/-- Taking the next slot off those still to do. -/
theorem todo_peel (j : Fin 7) (Φ : Fin 7 → sProp 𝕄) : todo j.val Φ = iprop(Φ j ∗ todo (j.val + 1) Φ) := by
  unfold todo
  rw [filter_todo j, bigSep_insert (by simp)]
  rfl
/-- Adding a slot to those done. -/
theorem done_push (j : Fin 7) (Φ : Fin 7 → sProp 𝕄) : done (j.val + 1) Φ = iprop(Φ j ∗ done j.val Φ) := by
  unfold done
  rw [filter_done j, bigSep_insert (by simp)]
  rfl
/-- At first all slots are to do, -/
theorem todo_zero (Φ : Fin 7 → sProp 𝕄) : todo 0 Φ = bigSep Finset.univ Φ := by
  unfold todo; rw [show (Finset.univ.filter fun j : Fin 7 => 0 ≤ j.val) = Finset.univ by decide]
/-- at last none. -/
theorem todo_seven (Φ : Fin 7 → sProp 𝕄) : todo 7 Φ = iprop(emp) := by
  unfold todo; rw [show (Finset.univ.filter fun j : Fin 7 => 7 ≤ j.val) = ∅ by decide]; exact bigSep_empty
/-- At first no slot is done, -/
theorem done_zero (Φ : Fin 7 → sProp 𝕄) : done 0 Φ = iprop(emp) := by
  unfold done; rw [show (Finset.univ.filter fun j : Fin 7 => j.val < 0) = ∅ by decide]; exact bigSep_empty
/-- at last all are. -/
theorem done_seven (Φ : Fin 7 → sProp 𝕄) : done 7 Φ = bigSep Finset.univ Φ := by
  unfold done; rw [show (Finset.univ.filter fun j : Fin 7 => j.val < 7) = Finset.univ by decide]

/-! ## What each device owes; the levels -/

/-- From step `n` on: the barrier units, the reduce-scatter arrivals and the all-gather arrivals still owed. -/
def owedBar (c : Dev nD) (n : ℕ) : CellTallies nD τ sig Unit :=
  ∑ j ∈ Finset.univ.filter (fun j : Fin 7 => n ≤ j.val), tallyAt (barCell (peer c j)) () 1
def owedIn (c : Dev nD) (k : Fin 4) (n : ℕ) : CellTallies nD τ sig Unit :=
  ∑ j ∈ Finset.univ.filter (fun j : Fin 7 => n ≤ j.val), tallyAt (dmaCell (peer c j) k (rev j)) () N

/-- A barrier signal takes its unit off what is owed to the barriers. -/
theorem owedBar_peel (c : Dev nD) (j : Fin 7) : owedBar c j.val = owedBar c (j.val + 1) + tallyAt (barCell (peer c j)) () 1 := by
  unfold owedBar
  rw [filter_todo j, Finset.sum_insert (by simp), add_comm]
/-- A transfer takes its units off what is owed to the receive cells. -/
theorem owedIn_peel (c : Dev nD) (k : Fin 4) (j : Fin 7) :
    owedIn c k j.val = owedIn c k (j.val + 1) + tallyAt (dmaCell (peer c j) k (rev j)) () N := by
  unfold owedIn
  rw [filter_todo j, Finset.sum_insert (by simp), add_comm]
/-- After seven signals nothing is owed to the barriers. -/
theorem owedBar_seven (c : Dev nD) : owedBar c 7 = 0 := by
  unfold owedBar; rw [show (Finset.univ.filter fun j : Fin 7 => 7 ≤ j.val) = ∅ by decide, Finset.sum_empty]
/-- After seven transfers nothing is owed to the receive cells. -/
theorem owedIn_seven (c : Dev nD) (k : Fin 4) : owedIn c k 7 = 0 := by
  unfold owedIn; rw [show (Finset.univ.filter fun j : Fin 7 => 7 ≤ j.val) = ∅ by decide, Finset.sum_empty]

/-- All that is owed after `a` signals, `b` reduce-scatter sends and `d` all-gather sends. -/
def owed (c : Dev nD) (a b d : ℕ) : CellTallies nD τ sig Unit := owedBar c a + owedIn c 1 b + owedIn c 3 d

/-- What is owed in all, before and after a barrier signal, -/
theorem owed_bar (c : Dev nD) (j : Fin 7) (b d : ℕ) : owed c j.val b d = owed c (j.val + 1) b d + tallyAt (barCell (peer c j)) () 1 := by
  unfold owed; rw [owedBar_peel]; ac_rfl
/-- before and after a transfer of the reduce-scatter, -/
theorem owed_rs (c : Dev nD) (j : Fin 7) (a d : ℕ) :
    owed c a j.val d = owed c a (j.val + 1) d + tallyAt (dmaCell (peer c j) 1 (rev j)) () N := by
  unfold owed; rw [owedIn_peel]; ac_rfl
/-- and before and after a transfer of the all-gather. -/
theorem owed_ag (c : Dev nD) (j : Fin 7) (a b : ℕ) :
    owed c a b j.val = owed c a b (j.val + 1) + tallyAt (dmaCell (peer c j) 3 (rev j)) () N := by
  unfold owed; rw [owedIn_peel]; ac_rfl
/-- After all of them nothing is owed. -/
theorem owed_seven (c : Dev nD) : owed c 7 7 7 = 0 := by
  unfold owed; rw [owedBar_seven, owedIn_seven, owedIn_seven, add_zero, add_zero]

/-- A sum of tallies is positive only where one of them is. -/
theorem sum_tally_pos {S : Finset (Fin 7)} {cell : Fin 7 → GSem nD τ sig} {k : ℕ} {g : GSem nD τ sig} {u : Unit}
    (h : 0 < (∑ j ∈ S, (tallyAt (cell j) () k : CellTallies nD τ sig Unit)) g u) : ∃ j, g = cell j := by
  by_contra hn
  push Not at hn
  have hz : (∑ j ∈ S, (tallyAt (cell j) () k : CellTallies nD τ sig Unit)) g u = 0 := by
    rw [Finset.sum_apply, Finsupp.finset_sum_apply]
    exact Finset.sum_eq_zero fun j _ => by rw [tallyAt_apply, if_neg fun h => hn j h.1]
  omega

/-- A cell to which something is owed is a barrier's or a receive cell of a phase that is not finished. -/
theorem owed_pos {c : Dev nD} {a b d : ℕ} {g : GSem nD τ sig} {u : Unit} (h : 0 < owed c a b d g u) :
    (a < 7 ∧ ∃ j, g = barCell (peer c j)) ∨ (b < 7 ∧ ∃ j, g = dmaCell (peer c j) 1 (rev j)) ∨ (d < 7 ∧ ∃ j, g = dmaCell (peer c j) 3 (rev j)) := by
  have none : ∀ n, ¬ n < 7 → (Finset.univ.filter fun j : Fin 7 => n ≤ j.val) = ∅ := fun n hn =>
    Finset.filter_eq_empty_iff.mpr fun j _ hj => by omega
  unfold owed at h
  rw [Pi.add_apply, Finsupp.add_apply, Pi.add_apply, Finsupp.add_apply] at h
  by_cases h1 : 0 < owedBar c a g u
  · refine .inl ⟨?_, sum_tally_pos h1⟩
    by_contra hn; rw [owedBar, none a hn, Finset.sum_empty] at h1; exact Nat.lt_irrefl 0 h1
  by_cases h2 : 0 < owedIn c 1 b g u
  · refine .inr (.inl ⟨?_, sum_tally_pos h2⟩)
    by_contra hn; rw [owedIn, none b hn, Finset.sum_empty] at h2; exact Nat.lt_irrefl 0 h2
  · have h3 : 0 < owedIn c 3 d g u := by omega
    refine .inr (.inr ⟨?_, sum_tally_pos h3⟩)
    by_contra hn; rw [owedIn, none d hn, Finset.sum_empty] at h3; exact Nat.lt_irrefl 0 h3

def L (g : GSem nD τ sig) : Finset Unit := if g.1.2 = .tc then {()} else ∅
/-- The barrier waits at level 1, reduce-scatter arrivals at 2, all-gather arrivals at 3, everything else at 0. -/
def lvOf : Option Key → ℕ
  | some (.inl _) => 1
  | some (.inr (1, _)) => 2
  | some (.inr (3, _)) => 3
  | _ => 0
def lv (g : GSem nD τ sig) (_ : Unit) : ℕ := lvOf (findKey g.2)
/-- Only the devices' own threads have levels. -/
theorem L_of_ne (g : GSem nD τ sig) (h : g.1.2 ≠ .tc) : L g = ∅ := if_neg h
/-- Every cell of a device has one level. -/
theorem L_tc (c : Dev nD) (sm : SemLoc sig) : L ((c : Thread nD τ), sm) = {()} := if_pos rfl
/-- The level of a barrier cell, -/
theorem lv_bar (c : Dev nD) (u : Unit) : lv (barCell c) u = 1 := by unfold lv; rw [findKey_bar]; rfl
/-- of a receive cell of the reduce-scatter, -/
theorem lv_rs (c : Dev nD) (j : Fin 7) (u : Unit) : lv (dmaCell c 1 j) u = 2 := by unfold lv; rw [findKey_dma]; rfl
/-- and of one of the all-gather. -/
theorem lv_ag (c : Dev nD) (j : Fin 7) (u : Unit) : lv (dmaCell c 3 j) u = 3 := by unfold lv; rw [findKey_dma]; rfl

/-- A device may wait on a cell that lies below all it still owes. -/
theorem mayWait_of (c : Dev nD) (sm : SemLoc sig) (a b d : ℕ)
    (ha : a < 7 → lv ((c : Thread nD τ), sm) () < 1) (hb : b < 7 → lv ((c : Thread nD τ), sm) () < 2) (hd : d < 7 → lv ((c : Thread nD τ), sm) () < 3) :
    (levAts L lv : sProp 𝕄) ⊢ MayWait (c : Thread nD τ) sm () (owed c a b d) := by
  refine MayOwe.of_cut (L := L) (lev := lv) (lv ((c : Thread nD τ), sm) ()) (fun p hp => by rw [Finset.mem_singleton.mp hp, L_tc]; exact Finset.mem_singleton_self _)
    (fun g u hg => ?_) (fun p hp => by rw [Finset.mem_singleton.mp hp]) (fun g u hg => ?_)
  · rcases owed_pos hg with ⟨_, j, rfl⟩ | ⟨_, j, rfl⟩ | ⟨_, j, rfl⟩ <;> exact Finset.mem_singleton_self _
  · rcases owed_pos hg with ⟨h, j, rfl⟩ | ⟨h, j, rfl⟩ | ⟨h, j, rfl⟩
    · rw [lv_bar]; exact ha h
    · rw [lv_rs]; exact hb h
    · rw [lv_ag]; exact hd h

end Cert.KernelIdealRun

end
-- ==== Proof.KernelIdealSteps.lean ====
/-
# One rule for each kind of step

A device's progress is counted: `n` of the seven signals sent, `n` of the seven transfers started, and so on. The
rules below take one step of the kernel's program and advance the count.
-/
module

public import proofs.«01_k».proof.Proof.KernelIdealSched
public import Idealize.ShloMosaic.Lib.ViewIndex

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (κ : Dev nD × Key → ℕ)

abbrev 𝒱₀ : Variants := Variants.none
/-- The weakest precondition of a piece of device `c`'s program. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that only returns satisfies what holds of its value. -/
theorem run_ret (c : Dev nD) {α : Type} (a : α) (Q : α → sProp 𝕄) : Q a ⊢ run c (.ret a) Q := by
  unfold run
  rw [wp_ret]
  iintro H
  imodintro
  iexact H

/-! ## What every device knows throughout -/

/-- Every cell runs the schedule, its one round has begun, and the levels are fixed. -/
def know : sProp 𝕄 :=
  iprop(bigSep Finset.univ (fun ck : Dev nD × Key => iprop(cellInv ER (Rd m ρ) (κ ck) (kcell ck) ∗ reached ER (kcell ck) 0)) ∗ levAts L lv)

instance know_persistent : BI.Persistent (know m ρ κ) := by unfold know; infer_instance

/-- What all cells' invariants say can be used again and again. -/
theorem cellsKnown (ck : Dev nD × Key) :
    bigSep Finset.univ (fun ck : Dev nD × Key => iprop(cellInv ER (Rd m ρ) (κ ck) (kcell ck) ∗ reached ER (kcell ck) 0))
      ⊢ iprop(cellInv ER (Rd m ρ) (κ ck) (kcell ck) ∗ reached ER (kcell ck) 0) := bigSep_elim (Finset.mem_univ ck)
/-- The invariant of one cell, -/
theorem know_cell (c : Dev nD) (k : Key) : know m ρ κ ⊢ iprop(cellInv ER (Rd m ρ) (κ (c, k)) (kcell (c, k)) ∗ reached ER (kcell (c, k)) 0) := by
  unfold know
  iintro ⟨H, -⟩
  iapply (cellsKnown m ρ κ (c, k)); iexact H
/-- of a device's barrier, -/
theorem know_bar (c : Dev nD) : know m ρ κ ⊢ iprop(cellInv ER (Rd m ρ) (κ (c, .inl ())) (barCell c) ∗ reached ER (barCell c) 0) := know_cell m ρ κ c (.inl ())
/-- of a transfer's cell, -/
theorem know_dma (c : Dev nD) (k : Fin 4) (j : Fin 7) :
    know m ρ κ ⊢ iprop(cellInv ER (Rd m ρ) (κ (c, .inr (k, j))) (dmaCell c k j) ∗ reached ER (dmaCell c k j) 0) := know_cell m ρ κ c (.inr (k, j))
/-- and the levels, out of what every device knows. -/
theorem know_lev : know m ρ κ ⊢ levAts L lv := by unfold know; iintro ⟨-, H⟩; iexact H

/-- What is known, and what is owed after `a` signals, `b` reduce-scatter sends and `d` all-gather sends. -/
def core (c : Dev nD) (a b d : ℕ) : sProp 𝕄 := iprop(know m ρ κ ∗ ∃ W : Waits sig Unit, owes (c : Thread nD τ) (owed c a b d) W)

/-! ## Signals -/

/-- A signal to peer `j` spends that duty's token and hands over the two slots the peer will fill. -/
def sigRes (c : Dev nD) (j : Fin 7) : sProp 𝕄 := iprop(dutyTok ER (barCell (peer c j)) 0 (rev j) ∗ slotAny rsM c j ∗ slotAny agM c j)
/-- `n` signals sent. -/
def signalled (c : Dev nD) (n : ℕ) : sProp 𝕄 := iprop(core m ρ κ c n 0 0 ∗ todo n (sigRes c))

/-- A barrier signal to the peer `j`: one more is signalled. -/
theorem step_signal (c n : Dev nD) (j : Fin 7) (hn : n = peer c j) {α : Type} {Q : α → sProp 𝕄} {k : PUnit → Prog (TpuEff nD τ sig (Elt F) Λ₀ .tc) α} :
    signalled m ρ κ c j.val
      ⊢ iprop((signalled m ρ κ c (j.val + 1) -∗ run c (k ⟨⟩) Q)
          -∗ run c (.op (.semSignal (Dev.tc n : Thread nD τ) barS (1#32 : BitVec 32).toInt) k) Q) := by
  subst hn
  unfold signalled core
  rw [todo_peel j]
  iintro ⟨⟨#K, %W, HO⟩, Hs, Htodo⟩ Hk
  unfold sigRes
  icases Hs with ⟨Htok, Hr, Hg⟩
  ihave Hc := (know_bar m ρ κ (peer c j)) $$ K
  icases Hc with ⟨#HI, #Hre⟩
  iapply (Rounds.wp_signal 𝒱₀ ER (Rd m ρ) (c : Thread nD τ) none (dst := (peer c j : Thread nD τ)) (κ := κ (peer c j, .inl ()))
      (by rw [duties_bar]; exact Finset.mem_univ (rev j)) ((amount_bar m ρ (peer c j) (rev j)).trans (by decide)) () (owed c (j.val + 1) 0 0) (owed_bar c j 0 0))
    $$ [HO Htok Hr Hg]
  · isplitr; · iexact HI
    isplitl [HO]; · iexact HO
    isplitl [Htok]; · iexact Htok
    isplitl [Hr Hg]
    · rw [payload_bar]; unfold barPay; rw [peer_peer, rev_rev]
      isplitl [Hr]; · iexact Hr
      iexact Hg
    · iexact Hre
  iintro HO
  iapply Hk
  isplitl [HO]
  · isplitr; · iexact K
    iexists W; iexact HO
  · iexact Htodo

/-! ## Waits -/

/-- A wait for all units of a transfer's semaphore: the cell's payload comes back. -/
theorem step_wait (c : Dev nD) (kd : Fin 4) (j : Fin 7) (a b d : ℕ)
    (ha : a < 7 → lv (dmaCell c kd j) () < 1) (hb : b < 7 → lv (dmaCell c kd j) () < 2) (hd : d < 7 → lv (dmaCell c kd j) () < 3)
    {sh' : Shape} {e' : EltTy} {src : Memref sig .tc .vmem sh' e'} {dst : Memref sig .tc .vmem S64x512 .bf16}
    {hsrc : src.view.WordExact} {hdst : dst.view.WordExact} {α : Type} {Q : α → sProp 𝕄} {k : PUnit → Prog (TpuEff nD τ sig (Elt F) Λ₀ .tc) α} :
    iprop(core m ρ κ c a b d ∗ cred (tallyAt (dmaCell c kd j) () N) ∗ atPos ER (dmaCell c kd j) 0 ∅ 0)
      ⊢ iprop((core m ρ κ c a b d ∗ atPos ER (dmaCell c kd j) 1 ∅ 0 ∗ dmaPay m ρ c kd j -∗ run c (k ⟨⟩) Q)
          -∗ run c (.op (.waitDma2 (dmaOf (kd, j)) src dst hsrc hdst) k) Q) := by
  unfold core
  iintro ⟨⟨#K, %W, HO⟩, Hc, Hat⟩ Hk
  ihave Hcl := (know_dma m ρ κ c kd j) $$ K
  icases Hcl with ⟨#HI, -⟩
  iapply (Rounds.wp_wait_rest_token 𝒱₀ ER (Rd m ρ) (c : Thread nD τ) none (κ := κ (c, .inr (kd, j)))
      (wpE_waitDma2_eq 𝒱₀ (c : Thread nD τ) none Set.univ) (Set.mem_univ _) () (O := owed c a b d) (W := W) (R := 0) (m := 0) (T := ∅)
      (by rw [Nat.zero_add, expect_dma])) $$ [Hc HO Hat]
  · isplitr; · iexact HI
    isplitl [Hc]; · iexact Hc
    isplitl [HO]; · iexact HO
    isplitr; · iapply (mayWait_of c (.dma (dmaOf (kd, j))) a b d ha hb hd); iapply (know_lev m ρ κ); iexact K
    iexact Hat
  iintro ⟨HO, Hat, -, Hpay⟩
  ihave Hp := (Entails.of_eq (rest_dma m ρ c kd j)) $$ Hpay
  iapply Hk
  isplitl [HO]
  · isplitr; · iexact K
    iexists _; iexact HO
  isplitl [Hat]; · iexact Hat
  iexact Hp

/-- The wait for the seven peers' signals: their slots come with it. -/
theorem step_barrier (c : Dev nD) {α : Type} {Q : α → sProp 𝕄} {k : PUnit → Prog (TpuEff nD τ sig (Elt F) Λ₀ .tc) α} :
    iprop(signalled m ρ κ c 7 ∗ cred (tallyAt (barCell c) () 7) ∗ atPos ER (barCell c) 0 ∅ 0)
      ⊢ iprop((core m ρ κ c 7 0 0 ∗ atPos ER (barCell c) 1 ∅ 0 ∗ bigSep Finset.univ (barPay c) -∗ run c (k ⟨⟩) Q)
          -∗ run c (.op (.semWait barS (7#32 : BitVec 32).toInt) k) Q) := by
  unfold signalled core
  iintro ⟨⟨⟨#K, %W, HO⟩, -⟩, Hc, Hat⟩ Hk
  ihave Hcl := (know_bar m ρ κ c) $$ K
  icases Hcl with ⟨#HI, -⟩
  iapply (Rounds.wp_wait_rest_token 𝒱₀ ER (Rd m ρ) (c : Thread nD τ) none (κ := κ (c, .inl ()))
      (wpE_semWait_eq 𝒱₀ (c : Thread nD τ) none Set.univ) (Set.mem_univ _) () (O := owed c 7 0 0) (W := W) (R := 0) (m := 0) (T := ∅)
      (by rw [expect_bar]; decide)) $$ [Hc HO Hat]
  · isplitr; · iexact HI
    isplitl [Hc]; · iexact Hc
    isplitl [HO]; · iexact HO
    isplitr
    · iapply (mayWait_of c (.reg barS) 7 0 0 (fun h => absurd h (by decide)) (fun _ => by rw [lv_bar]; decide) (fun _ => by rw [lv_bar]; decide))
      iapply (know_lev m ρ κ); iexact K
    iexact Hat
  iintro ⟨HO, Hat, -, Hpay⟩
  ihave Hp := (Entails.of_eq (rest_bar m ρ c)) $$ Hpay
  iapply Hk
  isplitl [HO]
  · isplitr; · iexact K
    iexists _; iexact HO
  isplitl [Hat]; · iexact Hat
  iexact Hp

/-! ## Sends -/

/-- What a send to peer `j` takes besides its source: both cells' tokens and the slot it fills. -/
def sendRes (c : Dev nD) (kd ka : Fin 4) (M : Buf7) (j : Fin 7) : sProp 𝕄 :=
  iprop(dutyTok ER (dmaCell c kd j) 0 0 ∗ dutyTok ER (dmaCell (peer c j) ka (rev j)) 0 0 ∗ slotAny M (peer c j) (rev j))
/-- `n` sends started: the credits to wait for them. -/
def sent (c : Dev nD) (kd ka : Fin 4) (M : Buf7) (n : ℕ) : sProp 𝕄 :=
  iprop(todo n (sendRes c kd ka M) ∗ done n fun j => cred (tallyAt (dmaCell c kd j) () N))

/-- A send to peer `j`, from a source holding `X` to the slot counted from the other end there: the source goes
    with the first cell's payload, the filled slot with the second's. -/
theorem step_send (c n : Dev nD) (j s : Fin 7) (hn : n = peer c j) (hs : s = rev j) (kd ka : Fin 4) (M : Buf7)
    (src : Memref sig .tc .vmem S64x512 .bf16) (q : PosShare TreeShare) (X : Vec F S64x512 .bf16) (a b d a' b' d' : ℕ)
    (ho : owed c a b d = owed c a' b' d' + tallyAt (dmaCell (peer c j) ka (rev j)) () N)
    (hsend : owns (c : Thread nD τ) src q X ⊢ dmaPay m ρ c kd j) (hrecv : slotAt M (peer c j) (rev j) X ⊢ dmaPay m ρ (peer c j) ka (rev j))
    {hsc : (slot M s).view.ref.isScScratch = false} {hsrc : src.view.WordExact} {hdst : (slot M s).view.WordExact}
    {hsem : DmaTarget.Typed .vmem (.dma (dmaOf (ka, s))) (.remote (Dev.tc n : Thread nD τ) (slot M s) (.dma (dmaOf (kd, j))) hsc)}
    {α : Type} {Q : α → sProp 𝕄} {k : PUnit → Prog (TpuEff nD τ sig (Elt F) Λ₀ .tc) α} :
    iprop(core m ρ κ c a b d ∗ sent c kd ka M j.val ∗ owns (c : Thread nD τ) src q X)
      ⊢ iprop((core m ρ κ c a' b' d' ∗ sent c kd ka M (j.val + 1) -∗ run c (k ⟨⟩) Q)
          -∗ run c (.op (.enqueueDma src (.remote (Dev.tc n : Thread nD τ) (slot M s) (.dma (dmaOf (kd, j))) hsc) (.dma (dmaOf (ka, s))) hsrc hdst hsem) k) Q) := by
  subst hn hs
  unfold sent core owns
  rw [todo_peel j, done_push j]
  iintro ⟨⟨#K, %W, HO⟩, ⟨⟨Hs, Htodo⟩, Hdone⟩, %fs, %hfs, Hp⟩ Hk
  unfold sendRes slotAny
  icases Hs with ⟨Ht0, Ht1, %fd, Hd⟩
  ihave Hc0 := (know_dma m ρ κ c kd j) $$ K
  icases Hc0 with ⟨#HI0, #Hr0⟩
  ihave Hc1 := (know_dma m ρ κ (peer c j) ka (rev j)) $$ K
  icases Hc1 with ⟨#HI1, #Hr1⟩
  iapply (Rounds.wp_send_pointsTo 𝒱₀ ER (Rd m ρ) (c : Thread nD τ) none (κ₁ := κ (c, .inr (kd, j))) (κ₂ := κ (peer c j, .inr (ka, rev j)))
      (r₁ := 0) (r₂ := 0) (d₁ := 0) (d₂ := 0) (fs := fs) (fd := fd)
      (by rw [duties_dma]; exact Finset.mem_singleton_self _) (by rw [duties_dma]; exact Finset.mem_singleton_self _)
      () () N rfl (amount_dma m ρ c kd j 0) (amount_dma m ρ (peer c j) ka (rev j) 0) (owed c a' b' d') ho (W := W)
      (by
        rw [payload_dma]
        refine BIBase.Entails.trans ?_ hsend
        unfold owns
        iintro H; iexists fs; isplitr
        · ipureintro; exact hfs
        · iexact H)
      (by
        rw [payload_dma]
        refine BIBase.Entails.trans ?_ hrecv
        unfold slotAt owns
        iintro H; iexists _; isplitr
        swap; · iexact H
        ipureintro; rw [View.read_write_univ]; exact hfs))
    $$ [HO Ht0 Ht1 Hd Hp]
  · isplitr; · iexact HI0
    isplitr; · iexact HI1
    isplitl [Hp]; · iexact Hp
    isplitl [Hd]; · iexact Hd
    isplitl [HO]; · iexact HO
    isplitl [Ht0]; · iexact Ht0
    isplitr; · iexact Hr0
    isplitl [Ht1]; · iexact Ht1
    iexact Hr1
  iintro ⟨Hc, HO⟩
  iapply Hk
  isplitl [HO]
  · isplitr; · iexact K
    iexists W; iexact HO
  isplitl [Htodo]; · iexact Htodo
  isplitl [Hc]; · iexact Hc
  iexact Hdone

/-- Send `j` of the reduce-scatter. -/
theorem step_send_rs (c n : Dev nD) (j s : Fin 7) (hn : n = peer c j) (hs : s = rev j)
    {hsc : (slot rsM s).view.ref.isScScratch = false} {hsrc : (slot pM j).view.WordExact} {hdst : (slot rsM s).view.WordExact}
    {hsem : DmaTarget.Typed .vmem (.dma (dmaOf (1, s))) (.remote (Dev.tc n : Thread nD τ) (slot rsM s) (.dma (dmaOf (0, j))) hsc)}
    {α : Type} {Q : α → sProp 𝕄} {k : PUnit → Prog (TpuEff nD τ sig (Elt F) Λ₀ .tc) α} :
    iprop(core m ρ κ c 7 j.val 0 ∗ sent c 0 1 rsM j.val ∗ slotAt pM c j (part m ρ c j))
      ⊢ iprop((core m ρ κ c 7 (j.val + 1) 0 ∗ sent c 0 1 rsM (j.val + 1) -∗ run c (k ⟨⟩) Q)
          -∗ run c (.op (.enqueueDma (slot pM j) (.remote (Dev.tc n : Thread nD τ) (slot rsM s) (.dma (dmaOf (0, j))) hsc) (.dma (dmaOf (1, s))) hsrc hdst hsem) k) Q) :=
  step_send m ρ κ c n j s hn hs 0 1 rsM (slot pM j) fullShare (part m ρ c j) 7 j.val 0 7 (j.val + 1) 0 (owed_rs c j 7 0)
    (Entails.refl _) (by unfold dmaPay inc; rw [peer_peer, rev_rev])

/-- Send `j` of the all-gather: one of the seven shares of its source goes with it. -/
theorem step_send_ag (c n : Dev nD) (j s : Fin 7) (hn : n = peer c j) (hs : s = rev j)
    {hsc : (slot agM s).view.ref.isScScratch = false} {hsrc : (gM : Memref sig .tc .vmem S64x512 .bf16).view.WordExact} {hdst : (slot agM s).view.WordExact}
    {hsem : DmaTarget.Typed .vmem (.dma (dmaOf (3, s))) (.remote (Dev.tc n : Thread nD τ) (slot agM s) (.dma (dmaOf (2, j))) hsc)}
    {α : Type} {Q : α → sProp 𝕄} {k : PUnit → Prog (TpuEff nD τ sig (Elt F) Λ₀ .tc) α} :
    iprop(core m ρ κ c 7 7 j.val ∗ sent c 2 3 agM j.val ∗ todo j.val (sharedAt m ρ c))
      ⊢ iprop((core m ρ κ c 7 7 (j.val + 1) ∗ sent c 2 3 agM (j.val + 1) ∗ todo (j.val + 1) (sharedAt m ρ c) -∗ run c (k ⟨⟩) Q)
          -∗ run c (.op (.enqueueDma gM (.remote (Dev.tc n : Thread nD τ) (slot agM s) (.dma (dmaOf (2, j))) hsc) (.dma (dmaOf (3, s))) hsrc hdst hsem) k) Q) := by
  rw [todo_peel j (sharedAt m ρ c)]
  unfold sharedAt
  iintro ⟨HO, HS, Hq, Hqs⟩ Hk
  iapply (step_send m ρ κ c n j s hn hs 2 3 agM gM (Transfers.shareTok fullShare 7 j) (sumB m ρ c) 7 7 j.val 7 7 (j.val + 1) (owed_ag c j 7 7)
    (Entails.refl _) (by unfold dmaPay; rw [peer_peer])) $$ [HO HS Hq]
  · isplitl [HO]; · iexact HO
    isplitl [HS]; · iexact HS
    iexact Hq
  iintro ⟨HO, HS⟩
  iapply Hk
  isplitl [HO]; · iexact HO
  isplitl [HS]; · iexact HS
  iexact Hqs

/-! ## Slots: loads and stores -/

theorem slot_set (M : Buf7) (j : Fin 7) : (slot M j).view.set = (M.access (rect7 j)).set := by
  exact Memref.set_view_squeeze ..

/-- A load of a slot holding `X` returns `X` under its unit axis. -/
theorem step_load_slot (M : Buf7) (c : Dev nD) (j : Fin 7) (X : Vec F S64x512 .bf16)
    {hl : M.view.LoadsAt (rect7 j).toLoadRect} {α : Type} {Q : α → sProp 𝕄} {k : Vec F S1x64x512 .bf16 → Prog (TpuEff nD τ sig (Elt F) Λ₀ .tc) α} :
    slotAt M c j X ⊢ iprop((slotAt M c j X -∗ run c (k (unflat X)) Q) -∗ run c (.op (.load M (rect7 j).toLoadRect hl) k) Q) := by
  unfold slotAt owns
  iintro ⟨%f, %hf, H⟩ Hk
  iapply (wp_load_rect 𝒱₀ (c : Thread nD τ) none Set.univ (m := M) (r := rect7 j) (S := (slot M j).view.set) (by rw [slot_set])) $$ H
  iintro H
  have hv : ((M.access (rect7 j)).read (Elt F) f : Vec F S1x64x512 .bf16) = unflat X := by
    rw [← hf]; exact (unflat_flat _).symm
  rw [hv]
  iapply Hk
  iexists f; isplitr
  · ipureintro; exact hf
  · iexact H

/-- A load of a slot at unknown contents returns something. -/
theorem step_load_any (M : Buf7) (c : Dev nD) (j : Fin 7)
    {hl : M.view.LoadsAt (rect7 j).toLoadRect} {α : Type} {Q : α → sProp 𝕄} {k : Vec F S1x64x512 .bf16 → Prog (TpuEff nD τ sig (Elt F) Λ₀ .tc) α} :
    slotAny M c j ⊢ iprop((∀ v, slotAny M c j -∗ run c (k v) Q) -∗ run c (.op (.load M (rect7 j).toLoadRect hl) k) Q) := by
  unfold slotAny
  iintro ⟨%f, H⟩ Hk
  iapply (wp_load_rect 𝒱₀ (c : Thread nD τ) none Set.univ (m := M) (r := rect7 j) (S := (slot M j).view.set) (by rw [slot_set])) $$ H
  iintro H
  iapply Hk $$ %_ [H]
  iexists f; iexact H

/-- A store to a slot leaves it holding the stored matrix. -/
theorem step_store_slot (M : Buf7) (c : Dev nD) (j : Fin 7) (w : Vec F S1x64x512 .bf16)
    {hx : (M.access (rect7 j)).Stores Finset.univ} {hm : (Finset.univ : Finset (rect7 j).shape.Idx) = Finset.univ ∨ ∀ a, (rect7 j).stride a = 1} {α : Type} {Q : α → sProp 𝕄}
    {k : PUnit → Prog (TpuEff nD τ sig (Elt F) Λ₀ .tc) α} :
    slotAny M c j ⊢ iprop((slotAt M c j (flat w) -∗ run c (k ⟨⟩) Q) -∗ run c (.op (.store M (rect7 j) w Finset.univ hx hm) k) Q) := by
  unfold slotAny slotAt owns
  iintro ⟨%f, H⟩ Hk
  iapply (wp_store 𝒱₀ (c : Thread nD τ) none Set.univ (m := M) (r := rect7 j) (w := w) (S := (slot M j).view.set) (by rw [slot_set]; exact View.setOn_subset_set ..)) $$ H
  iintro H
  iapply Hk
  iexists _; isplitr
  swap; · iexact H
  ipureintro
  show flat ((M.access (rect7 j)).read (Elt F) _) = flat w
  rw [View.read_write_univ]

/-! ## Arrivals and drained sends, counted -/

/-- `n` waits done on the semaphores of array `kd`, in the order `σ`. -/
def waited (c : Dev nD) (kd : Fin 4) (σ : Fin 7 → Fin 7) (n : ℕ) : sProp 𝕄 :=
  iprop(todo n (fun i => iprop(cred (tallyAt (dmaCell c kd (σ i)) () N) ∗ atPos ER (dmaCell c kd (σ i)) 0 ∅ 0))
    ∗ done n fun i => iprop(dmaPay m ρ c kd (σ i) ∗ atPos ER (dmaCell c kd (σ i)) 1 ∅ 0))

/-- The next wait of a row of seven, on the cell that the order `σ` names: its landing's payload comes in. -/
theorem step_wait_next (c : Dev nD) (kd : Fin 4) (σ : Fin 7 → Fin 7) (i j : Fin 7) (hj : j = σ i) (a b d : ℕ)
    (ha : a < 7 → lv (dmaCell c kd j) () < 1) (hb : b < 7 → lv (dmaCell c kd j) () < 2) (hd : d < 7 → lv (dmaCell c kd j) () < 3)
    {sh' : Shape} {e' : EltTy} {src : Memref sig .tc .vmem sh' e'} {dst : Memref sig .tc .vmem S64x512 .bf16}
    {hsrc : src.view.WordExact} {hdst : dst.view.WordExact} {α : Type} {Q : α → sProp 𝕄} {k : PUnit → Prog (TpuEff nD τ sig (Elt F) Λ₀ .tc) α} :
    iprop(core m ρ κ c a b d ∗ waited m ρ c kd σ i.val)
      ⊢ iprop((core m ρ κ c a b d ∗ waited m ρ c kd σ (i.val + 1) -∗ run c (k ⟨⟩) Q)
          -∗ run c (.op (.waitDma2 (dmaOf (kd, j)) src dst hsrc hdst) k) Q) := by
  subst hj
  unfold waited
  rw [todo_peel i, done_push i]
  iintro ⟨HO, ⟨⟨Hc, Hat⟩, Htodo⟩, Hdone⟩ Hk
  iapply (step_wait m ρ κ c kd (σ i) a b d ha hb hd) $$ [HO Hc Hat]
  · isplitl [HO]; · iexact HO
    isplitl [Hc]; · iexact Hc
    iexact Hat
  iintro ⟨HO, Hat, Hp⟩
  iapply Hk
  isplitl [HO]; · iexact HO
  isplitl [Htodo]; · iexact Htodo
  isplitl [Hp Hat]
  · isplitl [Hp]; · iexact Hp
    iexact Hat
  iexact Hdone

/-- A wait for reduce-scatter arrival `j`, all sends of the reduce-scatter started, none of the all-gather. -/
theorem step_arrive_rs (c : Dev nD) (i j : Fin 7) (hj : j = rev i) {sh' : Shape} {e' : EltTy} {src : Memref sig .tc .vmem sh' e'}
    {dst : Memref sig .tc .vmem S64x512 .bf16} {hsrc : src.view.WordExact} {hdst : dst.view.WordExact} {α : Type} {Q : α → sProp 𝕄}
    {k : PUnit → Prog (TpuEff nD τ sig (Elt F) Λ₀ .tc) α} :
    iprop(core m ρ κ c 7 7 0 ∗ waited m ρ c 1 rev i.val)
      ⊢ iprop((core m ρ κ c 7 7 0 ∗ waited m ρ c 1 rev (i.val + 1) -∗ run c (k ⟨⟩) Q)
          -∗ run c (.op (.waitDma2 (dmaOf (1, j)) src dst hsrc hdst) k) Q) :=
  step_wait_next m ρ κ c 1 rev i j hj 7 7 0 (fun h => absurd h (by decide)) (fun h => absurd h (by decide)) (fun _ => by rw [lv_rs]; decide)

/-- A wait with nothing owed any more. -/
theorem step_wait_free (c : Dev nD) (kd : Fin 4) (σ : Fin 7 → Fin 7) (i j : Fin 7) (hj : j = σ i) {sh' : Shape} {e' : EltTy} {src : Memref sig .tc .vmem sh' e'}
    {dst : Memref sig .tc .vmem S64x512 .bf16} {hsrc : src.view.WordExact} {hdst : dst.view.WordExact} {α : Type} {Q : α → sProp 𝕄}
    {k : PUnit → Prog (TpuEff nD τ sig (Elt F) Λ₀ .tc) α} :
    iprop(core m ρ κ c 7 7 7 ∗ waited m ρ c kd σ i.val)
      ⊢ iprop((core m ρ κ c 7 7 7 ∗ waited m ρ c kd σ (i.val + 1) -∗ run c (k ⟨⟩) Q)
          -∗ run c (.op (.waitDma2 (dmaOf (kd, j)) src dst hsrc hdst) k) Q) :=
  step_wait_next m ρ κ c kd σ i j hj 7 7 7 (fun h => absurd h (by decide)) (fun h => absurd h (by decide)) (fun h => absurd h (by decide))

/-- A load of the slot that arrived last, in the reduce-scatter. -/
theorem step_load_rs (c : Dev nD) (i j : Fin 7) (hj : j = rev i)
    {hl : rsM.view.LoadsAt (rect7 j).toLoadRect} {α : Type} {Q : α → sProp 𝕄} {k : Vec F S1x64x512 .bf16 → Prog (TpuEff nD τ sig (Elt F) Λ₀ .tc) α} :
    waited m ρ c 1 rev (i.val + 1)
      ⊢ iprop((waited m ρ c 1 rev (i.val + 1) -∗ run c (k (unflat (inc m ρ c j))) Q) -∗ run c (.op (.load rsM (rect7 j).toLoadRect hl) k) Q) := by
  subst hj
  unfold waited
  rw [done_push i]
  unfold dmaPay
  iintro ⟨Htodo, ⟨Hp, Hat⟩, Hdone⟩ Hk
  iapply (step_load_slot rsM c (rev i) (inc m ρ c (rev i))) $$ Hp
  iintro Hp
  iapply Hk
  isplitl [Htodo]; · iexact Htodo
  isplitl [Hp Hat]
  · isplitl [Hp]; · iexact Hp
    iexact Hat
  iexact Hdone

/-- A load of the slot that arrived last, in the all-gather. -/
theorem step_load_ag (c : Dev nD) (i j : Fin 7) (hj : j = rev i)
    {hl : agM.view.LoadsAt (rect7 j).toLoadRect} {α : Type} {Q : α → sProp 𝕄} {k : Vec F S1x64x512 .bf16 → Prog (TpuEff nD τ sig (Elt F) Λ₀ .tc) α} :
    waited m ρ c 3 rev (i.val + 1)
      ⊢ iprop((waited m ρ c 3 rev (i.val + 1) -∗ run c (k (unflat (sumB m ρ (peer c j)))) Q)
          -∗ run c (.op (.load agM (rect7 j).toLoadRect hl) k) Q) := by
  subst hj
  unfold waited
  rw [done_push i]
  unfold dmaPay
  iintro ⟨Htodo, ⟨Hp, Hat⟩, Hdone⟩ Hk
  iapply (step_load_slot agM c (rev i) (sumB m ρ (peer c (rev i)))) $$ Hp
  iintro Hp
  iapply Hk
  isplitl [Htodo]; · iexact Htodo
  isplitl [Hp Hat]
  · isplitl [Hp]; · iexact Hp
    iexact Hat
  iexact Hdone

/-! ## Row blocks: loads of the masked tokens, stores to the result -/

/-- The masked tokens in their buffer. -/
def maskedPts (c : Dev nD) : sProp 𝕄 := x2M.view.loc (c : Thread nD τ) ↦{fullShare} (masked m ρ c : Buf (Elt F) (x2M.view.loc (c : Thread nD τ)))

/-- The masked tokens' buffer at any contents. -/
def x2Any (c : Dev nD) : sProp 𝕄 := iprop(∃ f : Buf (Elt F) (x2M.view.loc (c : Thread nD τ)), x2M.view.loc (c : Thread nD τ) ↦{fullShare} f)

/-- A load from the masked tokens' buffer whose value is not used. -/
theorem step_load_x2 (c : Dev nD) {r : LoadRect S512x512} {hl : x2M.view.LoadsAt r} {α : Type} {Q : α → sProp 𝕄}
    {k : (r.shape.Idx → Elt F .bf16) → Prog (TpuEff nD τ sig (Elt F) Λ₀ .tc) α} :
    x2Any c ⊢ iprop((∀ v, x2Any c -∗ run c (k v) Q) -∗ run c (.op (.load x2M r hl) k) Q) := by
  unfold x2Any
  iintro ⟨%f, H⟩ Hk
  iapply (wp_load 𝒱₀ (c : Thread nD τ) none Set.univ (m := x2M) (r := r) (Finset.subset_univ _)) $$ H
  iintro H
  iapply Hk $$ %_ [H]
  iexists f; iexact H

/-- The offset zero, with two axes -/
theorem hz2 : (![0, 0] : Fin 2 → Nat) = fun _ => 0 := funext fun a => by revert a; decide
/-- and with three. -/
theorem hz3 : (![0, 0, 0] : Fin 3 → Nat) = fun _ => 0 := funext fun a => by revert a; decide
/-- Storing over the whole buffer leaves what was stored. -/
theorem write_x2 (f w : (cc0_scratch0 : Ref sig .tc).ty.Contents (Elt F)) :
    (x2M.access (Rect.unit (s := S512x512) ![0, 0] S512x512.size inb_S512x512_S512x512_0_0)).write (Elt F) f w Finset.univ = w :=
  Memref.write_access_unit_zero_univ (Elt F) cc0_scratch0 hz2 _ f w

/-- The store of the masked tokens. -/
theorem step_store_x2 (c : Dev nD) {hx : (x2M.access (Rect.unit (s := S512x512) ![0, 0] S512x512.size inb_S512x512_S512x512_0_0)).Stores Finset.univ}
    {hm : (Finset.univ : Finset (Rect.unit (s := S512x512) ![0, 0] S512x512.size inb_S512x512_S512x512_0_0).shape.Idx) = Finset.univ
      ∨ ∀ a, (Rect.unit (s := S512x512) ![0, 0] S512x512.size inb_S512x512_S512x512_0_0).stride a = 1}
    {α : Type} {Q : α → sProp 𝕄} {k : PUnit → Prog (TpuEff nD τ sig (Elt F) Λ₀ .tc) α} :
    x2Any c ⊢ iprop((maskedPts m ρ c -∗ run c (k ⟨⟩) Q)
      -∗ run c (.op (.store x2M (Rect.unit (s := S512x512) ![0, 0] S512x512.size inb_S512x512_S512x512_0_0)
        (k0_pay1 (firstExpert c) (istg m ρ c) (xstg m ρ c)) Finset.univ hx hm) k) Q) := by
  unfold x2Any maskedPts
  iintro ⟨%f, H⟩ Hk
  iapply (wp_store 𝒱₀ (c : Thread nD τ) none Set.univ (m := x2M) (r := Rect.unit (s := S512x512) ![0, 0] S512x512.size inb_S512x512_S512x512_0_0)
    (w := k0_pay1 (firstExpert c) (istg m ρ c) (xstg m ρ c)) (Finset.subset_univ _)) $$ H
  iintro H
  iapply Hk
  rw [write_x2]
  iexact H

/-- Loading a row block of the masked tokens. -/
theorem step_load_rows (c b : Dev nD) (off : Fin 2 → ℕ) (hoff : off = ![64 * b.val, 0]) {inb : ∀ a, off a + S64x512.size a ≤ S512x512.size a}
    {hl : x2M.view.LoadsAt (Rect.unit (s := S512x512) off S64x512.size inb).toLoadRect} {α : Type} {Q : α → sProp 𝕄}
    {k : Vec F S64x512 .bf16 → Prog (TpuEff nD τ sig (Elt F) Λ₀ .tc) α} :
    maskedPts m ρ c ⊢ iprop((maskedPts m ρ c -∗ run c (k (rows m ρ c b)) Q)
      -∗ run c (.op (.load x2M (Rect.unit (s := S512x512) off S64x512.size inb).toLoadRect hl) k) Q) := by
  subst hoff
  exact wp_load 𝒱₀ (c : Thread nD τ) none Set.univ (m := x2M) (r := (rect8 b).toLoadRect) (Finset.subset_univ _)

/-- What the result's row block `b` holds in the end on device `c`: its own sum, the others as their devices sent them. -/
def blockOut (c b : Dev nD) : FVec F S64x512 .f32 := if b = c then sumF m ρ c else k0_pay16 (unflat (sumB m ρ b))

/-- The result's buffer with the device's own block stored and `n` of the others. -/
def outPts (c : Dev nD) (n : ℕ) : sProp 𝕄 :=
  iprop(∃ g : Buf (Elt F) (oM.view.loc (c : Thread nD τ)),
    ⌜∀ b, (b = c ∨ ∃ i : Fin 7, i.val < n ∧ b = peer c (rev i)) → (oM.access (rect8 b)).read (Elt F) g = blockOut m ρ c b⌝
      ∗ (oM.view.loc (c : Thread nD τ) ↦{fullShare} g))
/-- The result's buffer at any contents. -/
def outAny (c : Dev nD) : sProp 𝕄 := iprop(∃ g : Buf (Elt F) (oM.view.loc (c : Thread nD τ)), oM.view.loc (c : Thread nD τ) ↦{fullShare} g)

/-- Different row blocks have no element in common. -/
theorem rows_disjoint (b b' : Dev nD) (h : b ≠ b') : Disjoint (rect8 b).set (rect8 b').set :=
  Ring.lead_disjoint (s := S512x512) (0 : Fin 2) 64 (fun b : Fin 8 => ![64 * b.val, 0]) S64x512.size inb8 (fun _ => rfl) rfl b b' h

/-- A stored block is read back, and the other blocks read as before. -/
theorem read_block (b b' : Dev nD) (g : (cc0_stg3_0 : Ref sig .tc).ty.Contents (Elt F)) (w : Vec F S64x512 .f32) :
    (oM.access (rect8 b)).read (Elt F) ((oM.access (rect8 b')).write (Elt F) g w Finset.univ)
      = if b = b' then w else (oM.access (rect8 b)).read (Elt F) g := by
  split
  · next h => subst h; exact View.read_write_univ ..
  · next h => exact View.read_slice_write_slice_of_disjoint _ _ _ _ _ (View.disjoint_slice (rows_disjoint b b' h))

/-- No device is its own peer. -/
theorem peer_ne (c : Dev nD) (i : Fin 7) : peer c i ≠ c := by revert c i; decide +kernel

/-- A load from the result's buffer whose value is not used. -/
theorem step_load_out (c : Dev nD) {r : LoadRect S512x512} (n : ℕ) {hl : oM.view.LoadsAt r} {α : Type} {Q : α → sProp 𝕄}
    {k : (r.shape.Idx → Elt F .f32) → Prog (TpuEff nD τ sig (Elt F) Λ₀ .tc) α} :
    outPts m ρ c n ⊢ iprop((∀ v, outPts m ρ c n -∗ run c (k v) Q) -∗ run c (.op (.load oM r hl) k) Q) := by
  unfold outPts
  iintro ⟨%g, %hg, H⟩ Hk
  iapply (wp_load 𝒱₀ (c : Thread nD τ) none Set.univ (m := oM) (r := r) (Finset.subset_univ _)) $$ H
  iintro H
  iapply Hk $$ %_ [H]
  iexists g; isplitr
  · ipureintro; exact hg
  · iexact H

/-- Storing the device's own row block, the first of the result. -/
theorem step_store_own (c : Dev nD) (off : Fin 2 → ℕ) (hoff : off = ![64 * c.val, 0]) (w : Vec F S64x512 .f32) (hw : w = sumF m ρ c)
    {inb : ∀ a, off a + S64x512.size a ≤ S512x512.size a}
    {hx : (oM.access (Rect.unit (s := S512x512) off S64x512.size inb)).Stores Finset.univ}
    {hm : (Finset.univ : Finset (Rect.unit (s := S512x512) off S64x512.size inb).shape.Idx) = Finset.univ ∨ ∀ a, (Rect.unit (s := S512x512) off S64x512.size inb).stride a = 1}
    {α : Type} {Q : α → sProp 𝕄} {k : PUnit → Prog (TpuEff nD τ sig (Elt F) Λ₀ .tc) α} :
    outAny c ⊢ iprop((outPts m ρ c 0 -∗ run c (k ⟨⟩) Q)
      -∗ run c (.op (.store oM (Rect.unit (s := S512x512) off S64x512.size inb) w Finset.univ hx hm) k) Q) := by
  subst hoff hw
  unfold outPts outAny
  iintro ⟨%g, H⟩ Hk
  iapply (wp_store 𝒱₀ (c : Thread nD τ) none Set.univ (m := oM) (r := rect8 c) (w := sumF m ρ c) (Finset.subset_univ _)) $$ H
  iintro H
  iapply Hk
  iexists _; isplitr
  swap; · iexact H
  ipureintro
  rintro b (rfl | ⟨i, hi, -⟩)
  · rw [read_block, if_pos rfl, blockOut, if_pos rfl]
  · exact absurd hi (Nat.not_lt_zero _)

/-- Storing the row block of a peer, received in the all-gather. -/
theorem step_store_out (c : Dev nD) (i : Fin 7) (off : Fin 2 → ℕ) (hoff : off = ![64 * (peer c (rev i)).val, 0]) (w : Vec F S64x512 .f32)
    (hw : w = k0_pay16 (unflat (sumB m ρ (peer c (rev i))))) {inb : ∀ a, off a + S64x512.size a ≤ S512x512.size a}
    {hx : (oM.access (Rect.unit (s := S512x512) off S64x512.size inb)).Stores Finset.univ}
    {hm : (Finset.univ : Finset (Rect.unit (s := S512x512) off S64x512.size inb).shape.Idx) = Finset.univ ∨ ∀ a, (Rect.unit (s := S512x512) off S64x512.size inb).stride a = 1}
    {α : Type} {Q : α → sProp 𝕄} {k : PUnit → Prog (TpuEff nD τ sig (Elt F) Λ₀ .tc) α} :
    outPts m ρ c i.val ⊢ iprop((outPts m ρ c (i.val + 1) -∗ run c (k ⟨⟩) Q)
      -∗ run c (.op (.store oM (Rect.unit (s := S512x512) off S64x512.size inb) w Finset.univ hx hm) k) Q) := by
  subst hoff hw
  unfold outPts
  iintro ⟨%g, %hg, H⟩ Hk
  iapply (wp_store 𝒱₀ (c : Thread nD τ) none Set.univ (m := oM) (r := rect8 (peer c (rev i))) (w := k0_pay16 (unflat (sumB m ρ (peer c (rev i)))))
    (Finset.subset_univ _)) $$ H
  iintro H
  iapply Hk
  iexists _; isplitr
  swap; · iexact H
  ipureintro
  intro b hb
  rw [read_block]
  split
  · next h => subst h; rw [blockOut, if_neg (peer_ne c (rev i))]
  · next h =>
    refine hg b (hb.imp id ?_)
    rintro ⟨i', hi', rfl⟩
    refine ⟨i', lt_of_le_of_ne (Nat.le_of_lt_succ hi') fun e => h ?_, rfl⟩
    rw [Fin.ext e]

end Cert.KernelIdealRun

end
-- ==== Proof.KernelIdealStates.lean ====
/-
# The states between the kernel's steps

What a device holds while it fills, sends, waits and drains, and the steps that lead from one such state to the next.
-/
module

public import proofs.«01_k».proof.Proof.KernelIdealSteps

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (κ : Dev nD × Key → ℕ)

/-- What the wait for the barrier takes. -/
def barWait (c : Dev nD) : sProp 𝕄 := iprop(cred (tallyAt (barCell c) () 7) ∗ atPos ER (barCell c) 0 ∅ 0)
/-- The tokens of the sends of one direction. -/
def tokens (c : Dev nD) (kd ka : Fin 4) (j : Fin 7) : sProp 𝕄 :=
  iprop(dutyTok ER (dmaCell c kd j) 0 0 ∗ dutyTok ER (dmaCell (peer c j) ka (rev j)) 0 0)

/-- At first nothing is done, which costs nothing. -/
theorem done_intro (Φ : Fin 7 → sProp 𝕄) : iprop(emp) ⊢ done 0 Φ := by rw [done_zero]

/-- The tokens and the slots the barrier handed over are what the sends of both directions take. -/
theorem open_sends (c : Dev nD) :
    iprop(bigSep Finset.univ (barPay (F := F) c) ∗ bigSep Finset.univ (tokens c 0 1) ∗ bigSep Finset.univ (tokens c 2 3))
      ⊢ iprop(sent c 0 1 rsM 0 ∗ sent c 2 3 agM 0) := by
  have hb : bigSep Finset.univ (barPay (F := F) c) = iprop(bigSep Finset.univ (fun s => slotAny (F := F) rsM (peer c s) (rev s)) ∗ bigSep Finset.univ fun s => slotAny (F := F) agM (peer c s) (rev s)) :=
    bigSep_sep' _ _ _
  have hs : ∀ kd ka M, iprop(bigSep Finset.univ (tokens (F := F) c kd ka) ∗ bigSep Finset.univ fun j => slotAny (F := F) M (peer c j) (rev j))
      ⊢ todo 0 (sendRes (F := F) c kd ka M) := by
    intro kd ka M
    rw [todo_zero, ← bigSep_sep']
    exact bigSep_mono fun j _ => by unfold tokens sendRes; exact BI.sep_assoc
  unfold sent
  rw [hb, done_zero, done_zero]
  iintro ⟨⟨HA, HB⟩, H1, H2⟩
  isplitl [HA H1]
  · isplitl [HA H1]
    · iapply (hs 0 1 rsM)
      isplitl [H1]; · iexact H1
      iexact HA
    · iempintro
  · isplitl [HB H2]
    · iapply (hs 2 3 agM)
      isplitl [H2]; · iexact H2
      iexact HB
    · iempintro

/-- The slots for the device's partial products, `n` of them filled and sent. -/
def parts (c : Dev nD) (n : ℕ) : sProp 𝕄 := todo n (slotAny (F := F) pM c)
/-- The same with slot `n` filled and not yet sent. -/
def partReady (c : Dev nD) (j : Fin 7) : sProp 𝕄 := iprop(slotAt pM c j (part m ρ c j) ∗ todo (j.val + 1) (slotAny (F := F) pM c))

/-- A load from a slot of the partial products whose value is not used. -/
theorem step_load_part (c : Dev nD) (j : Fin 7) {hl : pM.view.LoadsAt (rect7 j).toLoadRect} {α : Type} {Q : α → sProp 𝕄}
    {k : Vec F S1x64x512 .bf16 → Prog (TpuEff nD τ sig (Elt F) Λ₀ .tc) α} :
    parts c j.val ⊢ iprop((∀ v, parts c j.val -∗ run c (k v) Q) -∗ run c (.op (.load pM (rect7 j).toLoadRect hl) k) Q) := by
  unfold parts
  rw [todo_peel j]
  iintro ⟨H, HR⟩ Hk
  iapply (step_load_any pM c j) $$ H
  iintro %v H
  iapply Hk $$ %_ [H HR]
  isplitl [H]; · iexact H
  iexact HR

/-- Storing a partial product in its slot. -/
theorem step_store_part (c : Dev nD) (j : Fin 7) (w : Vec F S1x64x512 .bf16) (hw : flat w = part m ρ c j)
    {hx : (pM.access (rect7 j)).Stores Finset.univ} {hm : (Finset.univ : Finset (rect7 j).shape.Idx) = Finset.univ ∨ ∀ a, (rect7 j).stride a = 1} {α : Type} {Q : α → sProp 𝕄}
    {k : PUnit → Prog (TpuEff nD τ sig (Elt F) Λ₀ .tc) α} :
    parts c j.val ⊢ iprop((partReady m ρ c j -∗ run c (k ⟨⟩) Q) -∗ run c (.op (.store pM (rect7 j) w Finset.univ hx hm) k) Q) := by
  unfold parts partReady
  rw [todo_peel j, ← hw]
  iintro ⟨H, HR⟩ Hk
  iapply (step_store_slot pM c j w) $$ H
  iintro H
  iapply Hk
  isplitl [H]; · iexact H
  iexact HR

/-- The reduce-scatter with `n` sends started. -/
def rsOut (c : Dev nD) (n : ℕ) : sProp 𝕄 := iprop(core m ρ κ c 7 n 0 ∗ sent c 0 1 rsM n ∗ parts c n)
/-- The reduce-scatter with the slot of send `j` filled. -/
def rsHold (c : Dev nD) (j : Fin 7) : sProp 𝕄 := iprop(core m ρ κ c 7 j.val 0 ∗ sent c 0 1 rsM j.val ∗ partReady m ρ c j)

/-- The same load, in the state between two transfers. -/
theorem step_fill_load (c : Dev nD) (j : Fin 7) {hl : pM.view.LoadsAt (rect7 j).toLoadRect} {α : Type} {Q : α → sProp 𝕄}
    {k : Vec F S1x64x512 .bf16 → Prog (TpuEff nD τ sig (Elt F) Λ₀ .tc) α} :
    rsOut m ρ κ c j.val ⊢ iprop((∀ v, rsOut m ρ κ c j.val -∗ run c (k v) Q) -∗ run c (.op (.load pM (rect7 j).toLoadRect hl) k) Q) := by
  unfold rsOut
  iintro ⟨HO, HS, HP⟩ Hk
  iapply (step_load_part c j) $$ HP
  iintro %v HP
  iapply Hk $$ %_ [HO HS HP]
  isplitl [HO]; · iexact HO
  isplitl [HS]; · iexact HS
  iexact HP

/-- The same store, in the state between two transfers. -/
theorem step_fill (c : Dev nD) (j : Fin 7) (w : Vec F S1x64x512 .bf16) (hw : flat w = part m ρ c j)
    {hx : (pM.access (rect7 j)).Stores Finset.univ} {hm : (Finset.univ : Finset (rect7 j).shape.Idx) = Finset.univ ∨ ∀ a, (rect7 j).stride a = 1} {α : Type} {Q : α → sProp 𝕄}
    {k : PUnit → Prog (TpuEff nD τ sig (Elt F) Λ₀ .tc) α} :
    rsOut m ρ κ c j.val ⊢ iprop((rsHold m ρ κ c j -∗ run c (k ⟨⟩) Q) -∗ run c (.op (.store pM (rect7 j) w Finset.univ hx hm) k) Q) := by
  unfold rsOut rsHold
  iintro ⟨HO, HS, HP⟩ Hk
  iapply (step_store_part m ρ c j w hw) $$ HP
  iintro HP
  iapply Hk
  isplitl [HO]; · iexact HO
  isplitl [HS]; · iexact HS
  iexact HP

/-- The transfer of partial product `j` to peer `j`, into that peer's slot counted from the other end. -/
theorem step_push (c n : Dev nD) (j s : Fin 7) (hn : n = peer c j) (hs : s = rev j)
    {hsc : (slot rsM s).view.ref.isScScratch = false} {hsrc : (slot pM j).view.WordExact} {hdst : (slot rsM s).view.WordExact}
    {hsem : DmaTarget.Typed .vmem (.dma (dmaOf (1, s))) (.remote (Dev.tc n : Thread nD τ) (slot rsM s) (.dma (dmaOf (0, j))) hsc)}
    {α : Type} {Q : α → sProp 𝕄} {k : PUnit → Prog (TpuEff nD τ sig (Elt F) Λ₀ .tc) α} :
    rsHold m ρ κ c j ⊢ iprop((rsOut m ρ κ c (j.val + 1) -∗ run c (k ⟨⟩) Q)
          -∗ run c (.op (.enqueueDma (slot pM j) (.remote (Dev.tc n : Thread nD τ) (slot rsM s) (.dma (dmaOf (0, j))) hsc) (.dma (dmaOf (1, s))) hsrc hdst hsem) k) Q) := by
  unfold rsOut rsHold partReady
  iintro ⟨HO, HS, HP, HR⟩ Hk
  iapply (step_send_rs m ρ κ c n j s hn hs) $$ [HO HS HP]
  · isplitl [HO]; · iexact HO
    isplitl [HS]; · iexact HS
    iexact HP
  iintro ⟨HO, HS⟩
  iapply Hk
  isplitl [HO]; · iexact HO
  isplitl [HS]; · iexact HS
  unfold parts; iexact HR

/-- `n` partial products arrived, all sends of the reduce-scatter started. -/
def arrived (c : Dev nD) (n : ℕ) : sProp 𝕄 := iprop(core m ρ κ c 7 7 0 ∗ waited m ρ c 1 rev n)

/-- The wait for the next partial product. -/
theorem step_arrive (c : Dev nD) (i j : Fin 7) (hj : j = rev i) {sh' : Shape} {e' : EltTy} {src : Memref sig .tc .vmem sh' e'}
    {dst : Memref sig .tc .vmem S64x512 .bf16} {hsrc : src.view.WordExact} {hdst : dst.view.WordExact} {α : Type} {Q : α → sProp 𝕄}
    {k : PUnit → Prog (TpuEff nD τ sig (Elt F) Λ₀ .tc) α} :
    arrived m ρ κ c i.val ⊢ iprop((arrived m ρ κ c (i.val + 1) -∗ run c (k ⟨⟩) Q)
          -∗ run c (.op (.waitDma2 (dmaOf (1, j)) src dst hsrc hdst) k) Q) := step_arrive_rs m ρ κ c i j hj

/-- Loading a partial product that has arrived. -/
theorem step_load_arrived (c : Dev nD) (i j : Fin 7) (hj : j = rev i)
    {hl : rsM.view.LoadsAt (rect7 j).toLoadRect} {α : Type} {Q : α → sProp 𝕄} {k : Vec F S1x64x512 .bf16 → Prog (TpuEff nD τ sig (Elt F) Λ₀ .tc) α} :
    arrived m ρ κ c (i.val + 1)
      ⊢ iprop((arrived m ρ κ c (i.val + 1) -∗ run c (k (unflat (inc m ρ c j))) Q) -∗ run c (.op (.load rsM (rect7 j).toLoadRect hl) k) Q) := by
  unfold arrived
  iintro ⟨HO, HW⟩ Hk
  iapply (step_load_rs m ρ c i j hj) $$ HW
  iintro HW
  iapply Hk
  isplitl [HO]; · iexact HO
  iexact HW

/-- The buffer of the sum the device sends, at any contents and with the sum. -/
def gAny (c : Dev nD) : sProp 𝕄 := iprop(∃ f : Buf (Elt F) (gM.view.loc (c : Thread nD τ)), gM.view.loc (c : Thread nD τ) ↦{fullShare} f)
def gPts (c : Dev nD) : sProp 𝕄 := gM.view.loc (c : Thread nD τ) ↦{fullShare} (sumB m ρ c : Buf (Elt F) (gM.view.loc (c : Thread nD τ)))

/-- Storing over the whole buffer leaves what was stored. -/
theorem write_g (f w : (cc0_scratch3 : Ref sig .tc).ty.Contents (Elt F)) :
    (gM.access (Rect.unit (s := S64x512) ![0, 0] S64x512.size inb_S64x512_S64x512_0_0)).write (Elt F) f w Finset.univ = w :=
  Memref.write_access_unit_zero_univ (Elt F) cc0_scratch3 hz2 _ f w

/-- A load from the all-gather's source buffer whose value is not used. -/
theorem step_load_g (c : Dev nD) {r : LoadRect S64x512} {hl : gM.view.LoadsAt r} {α : Type} {Q : α → sProp 𝕄}
    {k : (r.shape.Idx → Elt F .bf16) → Prog (TpuEff nD τ sig (Elt F) Λ₀ .tc) α} :
    gAny c ⊢ iprop((∀ v, gAny c -∗ run c (k v) Q) -∗ run c (.op (.load gM r hl) k) Q) := by
  unfold gAny
  iintro ⟨%f, H⟩ Hk
  iapply (wp_load 𝒱₀ (c : Thread nD τ) none Set.univ (m := gM) (r := r) (Finset.subset_univ _)) $$ H
  iintro H
  iapply Hk $$ %_ [H]
  iexists f; iexact H

/-- Storing the finished row block, to be sent to the peers. -/
theorem step_store_g (c : Dev nD) (w : FVec F S64x512 .bf16) (hw : w = sumB m ρ c)
    {hx : (gM.access (Rect.unit (s := S64x512) ![0, 0] S64x512.size inb_S64x512_S64x512_0_0)).Stores Finset.univ}
    {hm : (Finset.univ : Finset (Rect.unit (s := S64x512) ![0, 0] S64x512.size inb_S64x512_S64x512_0_0).shape.Idx) = Finset.univ
      ∨ ∀ a, (Rect.unit (s := S64x512) ![0, 0] S64x512.size inb_S64x512_S64x512_0_0).stride a = 1}
    {α : Type} {Q : α → sProp 𝕄} {k : PUnit → Prog (TpuEff nD τ sig (Elt F) Λ₀ .tc) α} :
    gAny c ⊢ iprop((gPts m ρ c -∗ run c (k ⟨⟩) Q)
      -∗ run c (.op (.store gM (Rect.unit (s := S64x512) ![0, 0] S64x512.size inb_S64x512_S64x512_0_0) w Finset.univ hx hm) k) Q) := by
  subst hw
  unfold gAny gPts
  iintro ⟨%f, H⟩ Hk
  iapply (wp_store 𝒱₀ (c : Thread nD τ) none Set.univ (m := gM) (r := Rect.unit (s := S64x512) ![0, 0] S64x512.size inb_S64x512_S64x512_0_0)
    (w := sumB m ρ c) (Finset.subset_univ _)) $$ H
  iintro H
  iapply Hk
  rw [write_g]
  iexact H

/-- A load from the result's buffer, before anything is stored there, whose value is not used. -/
theorem step_load_outAny (c : Dev nD) {r : LoadRect S512x512} {hl : oM.view.LoadsAt r} {α : Type} {Q : α → sProp 𝕄}
    {k : (r.shape.Idx → Elt F .f32) → Prog (TpuEff nD τ sig (Elt F) Λ₀ .tc) α} :
    outAny c ⊢ iprop((∀ v, outAny c -∗ run c (k v) Q) -∗ run c (.op (.load oM r hl) k) Q) := by
  unfold outAny
  iintro ⟨%f, H⟩ Hk
  iapply (wp_load 𝒱₀ (c : Thread nD τ) none Set.univ (m := oM) (r := r) (Finset.subset_univ _)) $$ H
  iintro H
  iapply Hk $$ %_ [H]
  iexists f; iexact H

/-- The all-gather with `n` sends started. -/
def agOut (c : Dev nD) (n : ℕ) : sProp 𝕄 := iprop(core m ρ κ c 7 7 n ∗ sent c 2 3 agM n ∗ todo n (sharedAt m ρ c))

/-- The transfer of the finished row block to peer `j`. -/
theorem step_give (c n : Dev nD) (j s : Fin 7) (hn : n = peer c j) (hs : s = rev j)
    {hsc : (slot agM s).view.ref.isScScratch = false} {hsrc : (gM : Memref sig .tc .vmem S64x512 .bf16).view.WordExact} {hdst : (slot agM s).view.WordExact}
    {hsem : DmaTarget.Typed .vmem (.dma (dmaOf (3, s))) (.remote (Dev.tc n : Thread nD τ) (slot agM s) (.dma (dmaOf (2, j))) hsc)}
    {α : Type} {Q : α → sProp 𝕄} {k : PUnit → Prog (TpuEff nD τ sig (Elt F) Λ₀ .tc) α} :
    agOut m ρ κ c j.val ⊢ iprop((agOut m ρ κ c (j.val + 1) -∗ run c (k ⟨⟩) Q)
          -∗ run c (.op (.enqueueDma gM (.remote (Dev.tc n : Thread nD τ) (slot agM s) (.dma (dmaOf (2, j))) hsc) (.dma (dmaOf (3, s))) hsrc hdst hsem) k) Q) :=
  step_send_ag m ρ κ c n j s hn hs

/-- All sends started, `n` sums arrived. -/
def gathered (c : Dev nD) (n : ℕ) : sProp 𝕄 := iprop(core m ρ κ c 7 7 7 ∗ waited m ρ c 3 rev n)

/-- The wait for the next finished row block. -/
theorem step_gather (c : Dev nD) (i j : Fin 7) (hj : j = rev i) {sh' : Shape} {e' : EltTy} {src : Memref sig .tc .vmem sh' e'}
    {dst : Memref sig .tc .vmem S64x512 .bf16} {hsrc : src.view.WordExact} {hdst : dst.view.WordExact} {α : Type} {Q : α → sProp 𝕄}
    {k : PUnit → Prog (TpuEff nD τ sig (Elt F) Λ₀ .tc) α} :
    gathered m ρ κ c i.val ⊢ iprop((gathered m ρ κ c (i.val + 1) -∗ run c (k ⟨⟩) Q)
          -∗ run c (.op (.waitDma2 (dmaOf (3, j)) src dst hsrc hdst) k) Q) := step_wait_free m ρ κ c 3 rev i j hj

/-- Loading a finished row block that has arrived. -/
theorem step_load_gathered (c : Dev nD) (i j : Fin 7) (hj : j = rev i)
    {hl : agM.view.LoadsAt (rect7 j).toLoadRect} {α : Type} {Q : α → sProp 𝕄} {k : Vec F S1x64x512 .bf16 → Prog (TpuEff nD τ sig (Elt F) Λ₀ .tc) α} :
    gathered m ρ κ c (i.val + 1)
      ⊢ iprop((gathered m ρ κ c (i.val + 1) -∗ run c (k (unflat (sumB m ρ (peer c j)))) Q)
          -∗ run c (.op (.load agM (rect7 j).toLoadRect hl) k) Q) := by
  unfold gathered
  iintro ⟨HO, HW⟩ Hk
  iapply (step_load_ag m ρ c i j hj) $$ HW
  iintro HW
  iapply Hk
  isplitl [HO]; · iexact HO
  iexact HW

/-- Nothing owed, `n` sends of the direction `kd` drained. -/
def drained (c : Dev nD) (kd : Fin 4) (n : ℕ) : sProp 𝕄 := iprop(core m ρ κ c 7 7 7 ∗ waited m ρ c kd id n)

/-- The wait until a transfer has left its source: the source comes back. -/
theorem step_drain (c : Dev nD) (kd : Fin 4) (i : Fin 7) {sh' : Shape} {e' : EltTy} {src : Memref sig .tc .vmem sh' e'}
    {dst : Memref sig .tc .vmem S64x512 .bf16} {hsrc : src.view.WordExact} {hdst : dst.view.WordExact} {α : Type} {Q : α → sProp 𝕄}
    {k : PUnit → Prog (TpuEff nD τ sig (Elt F) Λ₀ .tc) α} :
    drained m ρ κ c kd i.val ⊢ iprop((drained m ρ κ c kd (i.val + 1) -∗ run c (k ⟨⟩) Q)
          -∗ run c (.op (.waitDma2 (dmaOf (kd, i)) src dst hsrc hdst) k) Q) := step_wait_free m ρ κ c kd id i i rfl

end Cert.KernelIdealRun

end
-- ==== Proof.KernelIdealPartsA.lean ====
/-
# The kernel's program, first half: signals, partial products, reduce-scatter

One statement for each piece of the printed program, from the state it is entered in to the state it leaves.
-/
module

public import proofs.«01_k».proof.Proof.KernelIdealStates

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (κ : Dev nD × Key → ℕ)

/-- The barrier semaphore as the program passes it along. -/
abbrev barA : Sems sig S_ := SemArray.scalar (sig.barrier 0 rfl)

/-- The staged inputs in their buffers. -/
def xPts (c : Dev nD) : sProp 𝕄 := xM.view.loc (c : Thread nD τ) ↦{fullShare} (xstg m ρ c : Buf (Elt F) (xM.view.loc (c : Thread nD τ)))
def iPts (c : Dev nD) : sProp 𝕄 := iM.view.loc (c : Thread nD τ) ↦{fullShare} (istg m ρ c : Buf (Elt F) (iM.view.loc (c : Thread nD τ)))
def wPts (c : Dev nD) : sProp 𝕄 := wM.view.loc (c : Thread nD τ) ↦{fullShare} (wstg m ρ c : Buf (Elt F) (wM.view.loc (c : Thread nD τ)))
/-- The slots, by number. -/
abbrev i0 : Fin 7 := ⟨0, by decide⟩
abbrev i1 : Fin 7 := ⟨1, by decide⟩
abbrev i2 : Fin 7 := ⟨2, by decide⟩
abbrev i3 : Fin 7 := ⟨3, by decide⟩
abbrev i4 : Fin 7 := ⟨4, by decide⟩
abbrev i5 : Fin 7 := ⟨5, by decide⟩
abbrev i6 : Fin 7 := ⟨6, by decide⟩

/-- Loads and stores of whole buffers. -/
theorem read_x (f : (cc0_stg0_0 : Ref sig .tc).ty.Contents (Elt F)) :
    xM.view.readAt (Elt F) (Rect.unit (s := S512x256) ![0, 0] S512x256.size inb_S512x256_S512x256_0_0).toLoadRect f = f :=
  Memref.readAt_unit_zero (Elt F) cc0_stg0_0 hz2 _ _
/-- Loading the routes gives the whole buffer; -/
theorem read_i (f : (cc0_stg1_0 : Ref sig .tc).ty.Contents (Elt F)) :
    iM.view.readAt (Elt F) (Rect.unit (s := S512x1) ![0, 0] S512x1.size inb_S512x1_S512x1_0_0).toLoadRect f = f :=
  Memref.readAt_unit_zero (Elt F) cc0_stg1_0 hz2 _ _
/-- so does loading the weights. -/
theorem read_w (f : (cc0_stg2_0 : Ref sig .tc).ty.Contents (Elt F)) :
    wM.view.readAt (Elt F) (Rect.unit (s := S2x256x512) ![0, 0, 0] S2x256x512.size inb_S2x256x512_S2x256x512_0_0_0).toLoadRect f = f :=
  Memref.readAt_unit_zero (Elt F) cc0_stg2_0 hz3 _ _
section Parts

variable (h0 : xM.IsWhole) (h1 : iM.IsWhole) (h2 : wM.IsWhole) (h3 : oM.IsWhole) (h4 : x2M.IsWhole) (h5 : pM.IsWhole) (h6 : rsM.IsWhole)
  (h7 : gM.IsWhole) (h8 : agM.IsWhole) (c : Dev nD)

/-- The first two barrier signals, -/
theorem part1 {Q : (Σ' (d0 : Dev nD) (v2 : BitVec 32) (v3 : Sems sig S_) (v30 : BitVec 32) (c8 : BitVec 32), BitVec 1) → sProp 𝕄} :
    signalled m ρ κ c 0 ⊢ iprop((∀ a b e, signalled m ρ κ c 2 -∗ Q ⟨c, meshWord c, barA, a, b, e⟩)
      -∗ run c (k0_part1 xM h0 iM h1 wM h2 oM h3 x2M h4 pM h5 rsM h6 gM h7 agM h8 cc0_scratch5 cc0_scratch6 cc0_scratch7 cc0_scratch8) Q) := by
  rw [k0_part1_eq_skeleton]; unfold k0_part1_skel
  simp only [semSignalWord, semWaitWord, Prog.lift, Prog.bind_op, Prog.bind_ret, Prog.pure_eq_ret, wp_deviceId]
  iintro H Hk
  iapply (step_signal m ρ κ c _ i0 (sigdev c).1) $$ H; iintro H
  iapply (step_signal m ρ κ c _ i1 (sigdev c).2.1) $$ H; iintro H
  iapply run_ret
  iapply Hk $$ %_ %_ %_ H

/-- the next two, -/
theorem part2 (w : BitVec 32) (a b : BitVec 32) (e : BitVec 1) {Q : (Σ' (v59 : BitVec 32) (v64 : BitVec 1), BitVec 32) → sProp 𝕄} :
    signalled m ρ κ c 2 ⊢ iprop((∀ w, signalled m ρ κ c 4 -∗ Q w)
      -∗ run c (k0_part2 xM h0 iM h1 wM h2 oM h3 x2M h4 pM h5 rsM h6 gM h7 agM h8 cc0_scratch5 cc0_scratch6 cc0_scratch7 cc0_scratch8 c w barA a b e) Q) := by
  rw [k0_part2_eq_skeleton]; unfold k0_part2_skel
  simp only [semSignalWord, semWaitWord, Prog.lift, Prog.bind_op, Prog.bind_ret, Prog.pure_eq_ret]
  iintro H Hk
  iapply (step_signal m ρ κ c _ i2 (sigdev c).2.2.1) $$ H; iintro H
  iapply (step_signal m ρ κ c _ i3 (sigdev c).2.2.2.1) $$ H; iintro H
  iapply run_ret
  iapply Hk $$ %_ H

/-- and the last three; the routes are loaded. -/
theorem part3 (a : BitVec 32) (b : BitVec 1) (e : BitVec 32) {Q : (Σ' (v95 : BitVec 32), Vec F S512x1 .i32) → sProp 𝕄} :
    iprop(signalled m ρ κ c 4 ∗ iPts m ρ c) ⊢ iprop((signalled m ρ κ c 7 ∗ iPts m ρ c -∗ Q ⟨firstExpert c, istg m ρ c⟩)
      -∗ run c (k0_part3 xM h0 iM h1 wM h2 oM h3 x2M h4 pM h5 rsM h6 gM h7 agM h8 cc0_scratch5 cc0_scratch6 cc0_scratch7 cc0_scratch8 c (meshWord c) barA a b e) Q) := by
  rw [k0_part3_eq_skeleton]; unfold k0_part3_skel
  simp only [semSignalWord, semWaitWord, Prog.lift, Prog.bind_op, Prog.bind_ret, Prog.pure_eq_ret]
  iintro ⟨H, Hi⟩ Hk
  iapply (step_signal m ρ κ c _ i4 (sigdev c).2.2.2.2.1) $$ H; iintro H
  iapply (step_signal m ρ κ c _ i5 (sigdev c).2.2.2.2.2.1) $$ H; iintro H
  iapply (step_signal m ρ κ c _ i6 (sigdev c).2.2.2.2.2.2) $$ H; iintro H
  unfold iPts
  iapply (wp_load 𝒱₀ (c : Thread nD τ) none Set.univ (m := iM) (Finset.subset_univ _)) $$ Hi
  iintro Hi
  rw [read_i]; iapply run_ret
  iapply Hk
  isplitl [H]; · iexact H
  iexact Hi

/-- The tokens are masked for the device's two experts, and the weights and the first row block are loaded. -/
theorem part4 (w : BitVec 32) {Q : (Σ' (v121 : FVec F S512x512 .bf16) (v135 : Vec F S64x512 .bf16), FVec F S64x512 .f32) → sProp 𝕄} :
    iprop(xPts m ρ c ∗ wPts m ρ c ∗ x2Any c) ⊢ iprop((xPts m ρ c ∗ wPts m ρ c ∗ maskedPts m ρ c -∗ Q ⟨weights m ρ c, rows m ρ c (peer c 0), constant S64x512 .f32 0x00000000#32⟩)
      -∗ run c (k0_part4 xM h0 iM h1 wM h2 oM h3 x2M h4 pM h5 rsM h6 gM h7 agM h8 cc0_scratch5 cc0_scratch6 cc0_scratch7 cc0_scratch8 c w (firstExpert c) (istg m ρ c)) Q) := by
  rw [k0_part4_eq_skeleton]; unfold k0_part4_skel
  simp only [semSignalWord, semWaitWord, Prog.lift, Prog.bind_op, Prog.bind_ret, Prog.pure_eq_ret]
  unfold xPts wPts
  iintro ⟨Hx, Hw, H2⟩ Hk
  iapply (wp_load 𝒱₀ (c : Thread nD τ) none Set.univ (m := xM) (Finset.subset_univ _)) $$ Hx
  iintro Hx
  rw [read_x]
  iapply (step_load_x2 c) $$ H2
  iintro %_ H2
  iapply (step_store_x2 m ρ c) $$ H2
  iintro H2
  iapply (wp_load 𝒱₀ (c : Thread nD τ) none Set.univ (m := wM) (Finset.subset_univ _)) $$ Hw
  iintro Hw
  rw [read_w]
  iapply (step_load_rows m ρ c (peer c 0) _ (off1_eq c)) $$ H2
  iintro H2
  iapply run_ret
  iapply Hk
  isplitl [Hx]; · iexact Hx
  isplitl [Hw]; · iexact Hw
  iexact H2

/-- The first partial product is stored, the barrier waited for, and the first transfer started. -/
theorem part5 (w : BitVec 32) {Q : (Σ' (v152 : BitVec 32) (v164 : BitVec 32) (c8_i32_107 : BitVec 32), BitVec 1) → sProp 𝕄} :
    iprop(signalled m ρ κ c 7 ∗ barWait c ∗ parts c 0 ∗ bigSep Finset.univ (tokens c 0 1) ∗ bigSep Finset.univ (tokens c 2 3)) ⊢ iprop((∀ w1, rsOut m ρ κ c 1 ∗ sent c 2 3 agM 0 ∗ atPos ER (barCell c) 1 ∅ 0 -∗ Q w1)
      -∗ run c (k0_part5 xM h0 iM h1 wM h2 oM h3 x2M h4 pM h5 rsM h6 gM h7 agM h8 cc0_scratch5 cc0_scratch6 cc0_scratch7 cc0_scratch8 c w barA (weights m ρ c) (rows m ρ c (peer c 0)) (constant S64x512 .f32 0x00000000#32)) Q) := by
  rw [k0_part5_eq_skeleton]; unfold k0_part5_skel
  simp only [semSignalWord, semWaitWord, Prog.lift, Prog.bind_op, Prog.bind_ret, Prog.pure_eq_ret]
  iintro ⟨HS, HC, HP, H1, H2⟩ Hk
  unfold barWait
  icases HC with ⟨HC, HW⟩
  iapply (step_load_part c i0) $$ HP; iintro %_ HP
  iapply (step_store_part m ρ c i0 _ rfl) $$ HP; iintro HP
  iapply (step_barrier m ρ κ c) $$ [HS HC HW]
  · isplitl [HS]; · iexact HS
    isplitl [HC]; · iexact HC
    iexact HW
  iintro ⟨HO, HW, HB⟩
  ihave HT := (open_sends c) $$ [HB H1 H2]
  · isplitl [HB]; · iexact HB
    isplitl [H1]; · iexact H1
    iexact H2
  icases HT with ⟨HT, HT'⟩
  iapply (step_push m ρ κ c _ i0 6 (rsdev c).1 rfl) $$ [HO HT HP]
  · unfold rsHold
    isplitl [HO]; · iexact HO
    isplitl [HT]; · iexact HT
    iexact HP
  iintro H
  iapply run_ret
  iapply Hk $$ %_ [H HT' HW]
  isplitl [H]; · iexact H
  isplitl [HT']; · iexact HT'
  iexact HW

/-- The second partial product is stored; -/
theorem part6 (w a e : BitVec 32) (b : BitVec 1) {Q : BitVec 32 → sProp 𝕄} :
    iprop(maskedPts m ρ c ∗ rsOut m ρ κ c 1) ⊢ iprop((∀ w1, maskedPts m ρ c ∗ rsHold m ρ κ c i1 -∗ Q w1)
      -∗ run c (k0_part6 xM h0 iM h1 wM h2 oM h3 x2M h4 pM h5 rsM h6 gM h7 agM h8 cc0_scratch5 cc0_scratch6 cc0_scratch7 cc0_scratch8 c w (weights m ρ c) a e b) Q) := by
  rw [k0_part6_eq_skeleton]; unfold k0_part6_skel
  simp only [semSignalWord, semWaitWord, Prog.lift, Prog.bind_op, Prog.bind_ret, Prog.pure_eq_ret]
  iintro ⟨Hm, H⟩ Hk
  iapply (step_load_rows m ρ c (peer c 1) _ (off2_rs c).1) $$ Hm; iintro Hm
  iapply (step_fill_load m ρ κ c i1) $$ H; iintro %_ H
  iapply (step_fill m ρ κ c i1 _ rfl) $$ H; iintro H
  iapply run_ret
  iapply Hk $$ %_ [Hm H]
  isplitl [Hm]; · iexact Hm
  iexact H

/-- it is sent, and the third stored; -/
theorem part7 (w : BitVec 32) {Q : (Σ' (v228 : BitVec 32) (v229 : BitVec 32) (v230 : BitVec 1) (v231 : BitVec 1), BitVec 1) → sProp 𝕄} :
    iprop(maskedPts m ρ c ∗ rsHold m ρ κ c i1) ⊢ iprop((∀ w1, maskedPts m ρ c ∗ rsHold m ρ κ c i2 -∗ Q w1)
      -∗ run c (k0_part7 xM h0 iM h1 wM h2 oM h3 x2M h4 pM h5 rsM h6 gM h7 agM h8 cc0_scratch5 cc0_scratch6 cc0_scratch7 cc0_scratch8 c w (weights m ρ c)) Q) := by
  rw [k0_part7_eq_skeleton]; unfold k0_part7_skel
  simp only [semSignalWord, semWaitWord, Prog.lift, Prog.bind_op, Prog.bind_ret, Prog.pure_eq_ret]
  iintro ⟨Hm, H⟩ Hk
  iapply (step_push m ρ κ c _ i1 5 (rsdev c).2.1 rfl) $$ H; iintro H
  iapply (step_load_rows m ρ c (peer c 2) _ (off2_rs c).2.1) $$ Hm; iintro Hm
  iapply (step_fill_load m ρ κ c i2) $$ H; iintro %_ H
  iapply (step_fill m ρ κ c i2 _ rfl) $$ H; iintro H
  iapply run_ret
  iapply Hk $$ %_ [Hm H]
  isplitl [Hm]; · iexact Hm
  iexact H

/-- it is sent, and the fourth stored; -/
theorem part8 (w a b : BitVec 32) (e f g : BitVec 1) {Q : BitVec 32 → sProp 𝕄} :
    iprop(maskedPts m ρ c ∗ rsHold m ρ κ c i2) ⊢ iprop((∀ w1, maskedPts m ρ c ∗ rsHold m ρ κ c i3 -∗ Q w1)
      -∗ run c (k0_part8 xM h0 iM h1 wM h2 oM h3 x2M h4 pM h5 rsM h6 gM h7 agM h8 cc0_scratch5 cc0_scratch6 cc0_scratch7 cc0_scratch8 c w (weights m ρ c) a b e f g) Q) := by
  rw [k0_part8_eq_skeleton]; unfold k0_part8_skel
  simp only [semSignalWord, semWaitWord, Prog.lift, Prog.bind_op, Prog.bind_ret, Prog.pure_eq_ret]
  iintro ⟨Hm, H⟩ Hk
  iapply (step_push m ρ κ c _ i2 4 (rsdev c).2.2.1 rfl) $$ H; iintro H
  iapply (step_load_rows m ρ c (peer c 3) _ (off2_rs c).2.2.1) $$ Hm; iintro Hm
  iapply (step_fill_load m ρ κ c i3) $$ H; iintro %_ H
  iapply (step_fill m ρ κ c i3 _ rfl) $$ H; iintro H
  iapply run_ret
  iapply Hk $$ %_ [Hm H]
  isplitl [Hm]; · iexact Hm
  iexact H

/-- it is sent. -/
theorem part9 (w : BitVec 32) {Q : (Σ' (v278 : BitVec 32) (v293 : BitVec 32) (v298 : BitVec 1), BitVec 32) → sProp 𝕄} :
    rsHold m ρ κ c i3 ⊢ iprop((∀ w1, rsOut m ρ κ c 4 -∗ Q w1)
      -∗ run c (k0_part9 xM h0 iM h1 wM h2 oM h3 x2M h4 pM h5 rsM h6 gM h7 agM h8 cc0_scratch5 cc0_scratch6 cc0_scratch7 cc0_scratch8 c w) Q) := by
  rw [k0_part9_eq_skeleton]; unfold k0_part9_skel
  simp only [semSignalWord, semWaitWord, Prog.lift, Prog.bind_op, Prog.bind_ret, Prog.pure_eq_ret]
  iintro H Hk
  iapply (step_push m ρ κ c _ i3 3 (rsdev c).2.2.2.1 rfl) $$ H; iintro H
  iapply run_ret
  iapply Hk $$ %_ H

/-- The fifth partial product is stored and sent. -/
theorem part10 (w a : BitVec 32) (b : BitVec 1) (e : BitVec 32) {Q : (Σ' (v320 : BitVec 32) (v331 : BitVec 32), BitVec 32) → sProp 𝕄} :
    iprop(maskedPts m ρ c ∗ rsOut m ρ κ c 4) ⊢ iprop((∀ w1, maskedPts m ρ c ∗ rsOut m ρ κ c 5 -∗ Q w1)
      -∗ run c (k0_part10 xM h0 iM h1 wM h2 oM h3 x2M h4 pM h5 rsM h6 gM h7 agM h8 cc0_scratch5 cc0_scratch6 cc0_scratch7 cc0_scratch8 c w (weights m ρ c) a b e) Q) := by
  rw [k0_part10_eq_skeleton]; unfold k0_part10_skel
  simp only [semSignalWord, semWaitWord, Prog.lift, Prog.bind_op, Prog.bind_ret, Prog.pure_eq_ret]
  iintro ⟨Hm, H⟩ Hk
  iapply (step_load_rows m ρ c (peer c 4) _ (off2_rs c).2.2.2.1) $$ Hm; iintro Hm
  iapply (step_fill_load m ρ κ c i4) $$ H; iintro %_ H
  iapply (step_fill m ρ κ c i4 _ rfl) $$ H; iintro H
  iapply (step_push m ρ κ c _ i4 2 (rsdev c).2.2.2.2.1 rfl) $$ H; iintro H
  iapply run_ret
  iapply Hk $$ %_ [Hm H]
  isplitl [Hm]; · iexact Hm
  iexact H

/-- The sixth is stored; -/
theorem part11 (w a b : BitVec 32) {Q : BitVec 32 → sProp 𝕄} :
    iprop(maskedPts m ρ c ∗ rsOut m ρ κ c 5) ⊢ iprop((∀ w1, maskedPts m ρ c ∗ rsHold m ρ κ c i5 -∗ Q w1)
      -∗ run c (k0_part11 xM h0 iM h1 wM h2 oM h3 x2M h4 pM h5 rsM h6 gM h7 agM h8 cc0_scratch5 cc0_scratch6 cc0_scratch7 cc0_scratch8 c w (weights m ρ c) a b) Q) := by
  rw [k0_part11_eq_skeleton]; unfold k0_part11_skel
  simp only [semSignalWord, semWaitWord, Prog.lift, Prog.bind_op, Prog.bind_ret, Prog.pure_eq_ret]
  iintro ⟨Hm, H⟩ Hk
  iapply (step_load_rows m ρ c (peer c 5) _ (off2_rs c).2.2.2.2.1) $$ Hm; iintro Hm
  iapply (step_fill_load m ρ κ c i5) $$ H; iintro %_ H
  iapply (step_fill m ρ κ c i5 _ rfl) $$ H; iintro H
  iapply run_ret
  iapply Hk $$ %_ [Hm H]
  isplitl [Hm]; · iexact Hm
  iexact H

/-- it is sent, and the seventh stored; -/
theorem part12 (w : BitVec 32) {Q : (Σ' (v396 : BitVec 32) (v397 : BitVec 32), BitVec 1) → sProp 𝕄} :
    iprop(maskedPts m ρ c ∗ rsHold m ρ κ c i5) ⊢ iprop((∀ w1, maskedPts m ρ c ∗ rsHold m ρ κ c i6 -∗ Q w1)
      -∗ run c (k0_part12 xM h0 iM h1 wM h2 oM h3 x2M h4 pM h5 rsM h6 gM h7 agM h8 cc0_scratch5 cc0_scratch6 cc0_scratch7 cc0_scratch8 c w (weights m ρ c)) Q) := by
  rw [k0_part12_eq_skeleton]; unfold k0_part12_skel
  simp only [semSignalWord, semWaitWord, Prog.lift, Prog.bind_op, Prog.bind_ret, Prog.pure_eq_ret]
  iintro ⟨Hm, H⟩ Hk
  iapply (step_push m ρ κ c _ i5 1 (rsdev c).2.2.2.2.2.1 rfl) $$ H; iintro H
  iapply (step_load_rows m ρ c (peer c 6) _ (off2_rs c).2.2.2.2.2) $$ Hm; iintro Hm
  iapply (step_fill_load m ρ κ c i6) $$ H; iintro %_ H
  iapply (step_fill m ρ κ c i6 _ rfl) $$ H; iintro H
  iapply run_ret
  iapply Hk $$ %_ [Hm H]
  isplitl [Hm]; · iexact Hm
  iexact H

/-- it is sent, the device's own product is formed, and the first partial product from a peer arrives. -/
theorem part13 (w a b d : BitVec 32) (e : BitVec 1) {Q : (Σ' (v404 : BitVec 32) (v418 : FVec F S64x512 .f32), FVec F S64x512 .bf16) → sProp 𝕄} :
    iprop(maskedPts m ρ c ∗ rsHold m ρ κ c i6 ∗ waited m ρ c 1 rev 0) ⊢ iprop((∀ w1, maskedPts m ρ c ∗ sent c 0 1 rsM 7 ∗ arrived m ρ κ c 1 -∗ Q ⟨w1, k0_pay10 (weights m ρ c) (rows m ρ c c), k0_pay11 (unflat (inc m ρ c 6))⟩)
      -∗ run c (k0_part13 xM h0 iM h1 wM h2 oM h3 x2M h4 pM h5 rsM h6 gM h7 agM h8 cc0_scratch5 cc0_scratch6 cc0_scratch7 cc0_scratch8 c w (weights m ρ c) a b d e) Q) := by
  rw [k0_part13_eq_skeleton]; unfold k0_part13_skel
  simp only [semSignalWord, semWaitWord, Prog.lift, Prog.bind_op, Prog.bind_ret, Prog.pure_eq_ret]
  iintro ⟨Hm, H, HW⟩ Hk
  iapply (step_push m ρ κ c _ i6 0 (rsdev c).2.2.2.2.2.2 rfl) $$ H; iintro H
  iapply (step_load_rows m ρ c c _ (k0_off3_eq c)) $$ Hm; iintro Hm
  unfold rsOut
  icases H with ⟨HO, HS, -⟩
  iapply (step_arrive m ρ κ c i0 6 rfl) $$ [HO HW]
  · unfold arrived
    isplitl [HO]; · iexact HO
    iexact HW
  iintro HA
  iapply (step_load_arrived m ρ κ c i0 6 rfl) $$ HA; iintro HA
  iapply run_ret
  iapply Hk $$ %_ [Hm HS HA]
  isplitl [Hm]; · iexact Hm
  isplitl [HS]; · iexact HS
  iexact HA

/-- Two more arrive and are added, -/
theorem part14 (a b d : BitVec 32) {Q : (Σ' (v454 : FVec F S64x512 .f32), BitVec 32) → sProp 𝕄} :
    arrived m ρ κ c 1 ⊢ iprop((∀ w1, arrived m ρ κ c 3 -∗ Q ⟨sum4 m ρ c, w1⟩)
      -∗ run c (k0_part14 xM h0 iM h1 wM h2 oM h3 x2M h4 pM h5 rsM h6 gM h7 agM h8 cc0_scratch5 cc0_scratch6 cc0_scratch7 cc0_scratch8 a b d (k0_pay10 (weights m ρ c) (rows m ρ c c)) (k0_pay11 (unflat (inc m ρ c 6)))) Q) := by
  rw [k0_part14_eq_skeleton]; unfold k0_part14_skel
  simp only [semSignalWord, semWaitWord, Prog.lift, Prog.bind_op, Prog.bind_ret, Prog.pure_eq_ret]
  iintro HA Hk
  iapply (step_arrive m ρ κ c i1 5 rfl) $$ HA; iintro HA
  iapply (step_load_arrived m ρ κ c i1 5 rfl) $$ HA; iintro HA
  iapply (step_arrive m ρ κ c i2 4 rfl) $$ HA; iintro HA
  iapply (step_load_arrived m ρ κ c i2 4 rfl) $$ HA; iintro HA
  iapply run_ret
  iapply Hk $$ %_ HA

/-- then two more, -/
theorem part15 (a b d : BitVec 32) {Q : FVec F S64x512 .f32 → sProp 𝕄} :
    arrived m ρ κ c 3 ⊢ iprop((arrived m ρ κ c 5 -∗ Q (sum6 m ρ c))
      -∗ run c (k0_part15 xM h0 iM h1 wM h2 oM h3 x2M h4 pM h5 rsM h6 gM h7 agM h8 cc0_scratch5 cc0_scratch6 cc0_scratch7 cc0_scratch8 a b (sum4 m ρ c) d) Q) := by
  rw [k0_part15_eq_skeleton]; unfold k0_part15_skel
  simp only [semSignalWord, semWaitWord, Prog.lift, Prog.bind_op, Prog.bind_ret, Prog.pure_eq_ret]
  iintro HA Hk
  iapply (step_arrive m ρ κ c i3 3 rfl) $$ HA; iintro HA
  iapply (step_load_arrived m ρ κ c i3 3 rfl) $$ HA; iintro HA
  iapply (step_arrive m ρ κ c i4 2 rfl) $$ HA; iintro HA
  iapply (step_load_arrived m ρ κ c i4 2 rfl) $$ HA; iintro HA
  iapply run_ret
  iapply Hk $$ HA

/-- and the last two: the device's row block is stored in the result and in the buffer to be sent. -/
theorem part16 (w a : BitVec 32) {Q : (Σ' (v511 : BitVec 32), BitVec 32) → sProp 𝕄} :
    iprop(arrived m ρ κ c 5 ∗ outAny c ∗ gAny c) ⊢ iprop((∀ w1, arrived m ρ κ c 7 ∗ outPts m ρ c 0 ∗ gPts m ρ c -∗ Q w1)
      -∗ run c (k0_part16 xM h0 iM h1 wM h2 oM h3 x2M h4 pM h5 rsM h6 gM h7 agM h8 cc0_scratch5 cc0_scratch6 cc0_scratch7 cc0_scratch8 c w a (sum6 m ρ c)) Q) := by
  rw [k0_part16_eq_skeleton]; unfold k0_part16_skel
  simp only [semSignalWord, semWaitWord, Prog.lift, Prog.bind_op, Prog.bind_ret, Prog.pure_eq_ret]
  iintro ⟨HA, Ho, Hg⟩ Hk
  iapply (step_arrive m ρ κ c i5 1 rfl) $$ HA; iintro HA
  iapply (step_load_arrived m ρ κ c i5 1 rfl) $$ HA; iintro HA
  iapply (step_arrive m ρ κ c i6 0 rfl) $$ HA; iintro HA
  iapply (step_load_arrived m ρ κ c i6 0 rfl) $$ HA; iintro HA
  iapply (step_load_outAny c) $$ Ho; iintro %_ Ho
  iapply (step_store_own m ρ c _ (k0_off3_eq c) _ rfl) $$ Ho; iintro Ho
  iapply (step_load_g c) $$ Hg; iintro %_ Hg
  iapply (step_store_g m ρ c _ rfl) $$ Hg; iintro Hg
  iapply run_ret
  iapply Hk $$ %_ [HA Ho Hg]
  isplitl [HA]; · iexact HA
  isplitl [Ho]; · iexact Ho
  iexact Hg

end Parts

end Cert.KernelIdealRun

end
-- ==== Proof.KernelIdealPartsB.lean ====
/-
# The kernel's program, second half: sums, all-gather, draining

One statement for each piece of the printed program, from the state it is entered in to the state it leaves.
-/
module

public import proofs.«01_k».proof.Proof.KernelIdealPartsA

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (κ : Dev nD × Key → ℕ)

section Parts

variable (h0 : xM.IsWhole) (h1 : iM.IsWhole) (h2 : wM.IsWhole) (h3 : oM.IsWhole) (h4 : x2M.IsWhole) (h5 : pM.IsWhole) (h6 : rsM.IsWhole)
  (h7 : gM.IsWhole) (h8 : agM.IsWhole) (c : Dev nD)

/-- The finished row block is sent to the first peer, -/
theorem part17 (w a b : BitVec 32) {Q : (Σ' (v521 : BitVec 32), BitVec 32) → sProp 𝕄} :
    agOut m ρ κ c 0 ⊢ iprop((∀ w1, agOut m ρ κ c 1 -∗ Q w1)
      -∗ run c (k0_part17 xM h0 iM h1 wM h2 oM h3 x2M h4 pM h5 rsM h6 gM h7 agM h8 cc0_scratch5 cc0_scratch6 cc0_scratch7 cc0_scratch8 c w a b) Q) := by
  rw [k0_part17_eq_skeleton]; unfold k0_part17_skel
  simp only [semSignalWord, semWaitWord, Prog.lift, Prog.bind_op, Prog.bind_ret, Prog.pure_eq_ret]
  iintro H Hk
  iapply (step_give m ρ κ c _ i0 6 (agdev c).1 rfl) $$ H; iintro H
  iapply run_ret
  iapply Hk $$ %_ H

/-- to the next two, -/
theorem part18 (w : BitVec 32) {Q : (Σ' (v561 : BitVec 32), BitVec 32) → sProp 𝕄} :
    agOut m ρ κ c 1 ⊢ iprop((∀ w1, agOut m ρ κ c 3 -∗ Q w1)
      -∗ run c (k0_part18 xM h0 iM h1 wM h2 oM h3 x2M h4 pM h5 rsM h6 gM h7 agM h8 cc0_scratch5 cc0_scratch6 cc0_scratch7 cc0_scratch8 c w) Q) := by
  rw [k0_part18_eq_skeleton]; unfold k0_part18_skel
  simp only [semSignalWord, semWaitWord, Prog.lift, Prog.bind_op, Prog.bind_ret, Prog.pure_eq_ret]
  iintro H Hk
  iapply (step_give m ρ κ c _ i1 5 (agdev c).2.1 rfl) $$ H; iintro H
  iapply (step_give m ρ κ c _ i2 4 (agdev c).2.2.1 rfl) $$ H; iintro H
  iapply run_ret
  iapply Hk $$ %_ H

/-- to two more, -/
theorem part19 (w a : BitVec 32) {Q : (Σ' (v601 : BitVec 32) (v611 : BitVec 32), BitVec 32) → sProp 𝕄} :
    agOut m ρ κ c 3 ⊢ iprop((∀ w1, agOut m ρ κ c 5 -∗ Q w1)
      -∗ run c (k0_part19 xM h0 iM h1 wM h2 oM h3 x2M h4 pM h5 rsM h6 gM h7 agM h8 cc0_scratch5 cc0_scratch6 cc0_scratch7 cc0_scratch8 c w a) Q) := by
  rw [k0_part19_eq_skeleton]; unfold k0_part19_skel
  simp only [semSignalWord, semWaitWord, Prog.lift, Prog.bind_op, Prog.bind_ret, Prog.pure_eq_ret]
  iintro H Hk
  iapply (step_give m ρ κ c _ i3 3 (agdev c).2.2.2.1 rfl) $$ H; iintro H
  iapply (step_give m ρ κ c _ i4 2 (agdev c).2.2.2.2.1 rfl) $$ H; iintro H
  iapply run_ret
  iapply Hk $$ %_ H

/-- to the sixth, -/
theorem part20 (w a b : BitVec 32) {Q : (Σ' (v621 : BitVec 32), BitVec 32) → sProp 𝕄} :
    agOut m ρ κ c 5 ⊢ iprop((∀ w1, agOut m ρ κ c 6 -∗ Q w1)
      -∗ run c (k0_part20 xM h0 iM h1 wM h2 oM h3 x2M h4 pM h5 rsM h6 gM h7 agM h8 cc0_scratch5 cc0_scratch6 cc0_scratch7 cc0_scratch8 c w a b) Q) := by
  rw [k0_part20_eq_skeleton]; unfold k0_part20_skel
  simp only [semSignalWord, semWaitWord, Prog.lift, Prog.bind_op, Prog.bind_ret, Prog.pure_eq_ret]
  iintro H Hk
  iapply (step_give m ρ κ c _ i5 1 (agdev c).2.2.2.2.2.1 rfl) $$ H; iintro H
  iapply run_ret
  iapply Hk $$ %_ H

/-- and to the last; the first finished row block from a peer arrives and is stored. -/
theorem part21 (w a b : BitVec 32) {Q : PUnit → sProp 𝕄} :
    iprop(agOut m ρ κ c 6 ∗ waited m ρ c 3 rev 0 ∗ outPts m ρ c 0) ⊢ iprop((sent c 2 3 agM 7 ∗ gathered m ρ κ c 1 ∗ outPts m ρ c 1 -∗ Q ⟨⟩)
      -∗ run c (k0_part21 xM h0 iM h1 wM h2 oM h3 x2M h4 pM h5 rsM h6 gM h7 agM h8 cc0_scratch5 cc0_scratch6 cc0_scratch7 cc0_scratch8 c w a b) Q) := by
  rw [k0_part21_eq_skeleton]; unfold k0_part21_skel
  simp only [semSignalWord, semWaitWord, Prog.lift, Prog.bind_op, Prog.bind_ret, Prog.pure_eq_ret]
  iintro ⟨H, HW, Ho⟩ Hk
  iapply (step_give m ρ κ c _ i6 0 (agdev c).2.2.2.2.2.2 rfl) $$ H; iintro H
  unfold agOut
  icases H with ⟨HO, HS, -⟩
  iapply (step_gather m ρ κ c i0 6 rfl) $$ [HO HW]
  · unfold gathered
    isplitl [HO]; · iexact HO
    iexact HW
  iintro HG
  iapply (step_load_gathered m ρ κ c i0 6 rfl) $$ HG; iintro HG
  iapply (step_load_out m ρ c 0) $$ Ho; iintro %_ Ho
  iapply (step_store_out m ρ c i0 _ (off2_ag c).2.2.2.2.2.2 _ rfl) $$ Ho; iintro Ho
  iapply run_ret
  iapply Hk
  isplitl [HS]; · iexact HS
  isplitl [HG]; · iexact HG
  iexact Ho

/-- Two more arrive, and one is stored. -/
theorem part22 (w a : BitVec 32) {Q : (Σ' (v707 : BitVec 32) (v708 : BitVec 32), BitVec 32) → sProp 𝕄} :
    iprop(gathered m ρ κ c 1 ∗ outPts m ρ c 1) ⊢ iprop((∀ w1, gathered m ρ κ c 3 ∗ outPts m ρ c 2 -∗ Q w1)
      -∗ run c (k0_part22 xM h0 iM h1 wM h2 oM h3 x2M h4 pM h5 rsM h6 gM h7 agM h8 cc0_scratch5 cc0_scratch6 cc0_scratch7 cc0_scratch8 c w a) Q) := by
  rw [k0_part22_eq_skeleton]; unfold k0_part22_skel
  simp only [semSignalWord, semWaitWord, Prog.lift, Prog.bind_op, Prog.bind_ret, Prog.pure_eq_ret]
  iintro ⟨HG, Ho⟩ Hk
  iapply (step_gather m ρ κ c i1 5 rfl) $$ HG; iintro HG
  iapply (step_load_gathered m ρ κ c i1 5 rfl) $$ HG; iintro HG
  iapply (step_load_out m ρ c 1) $$ Ho; iintro %_ Ho
  iapply (step_store_out m ρ c i1 _ (off2_ag c).2.2.2.2.2.1 _ rfl) $$ Ho; iintro Ho
  iapply (step_gather m ρ κ c i2 4 rfl) $$ HG; iintro HG
  iapply run_ret
  iapply Hk $$ %_ [HG Ho]
  isplitl [HG]; · iexact HG
  iexact Ho

/-- That one is stored and the next arrives and is loaded. -/
theorem part23 (w a b d e : BitVec 32) {Q : (Σ' (v739 : BitVec 32), FVec F S64x512 .bf16) → sProp 𝕄} :
    iprop(gathered m ρ κ c 3 ∗ outPts m ρ c 2) ⊢ iprop((∀ w1, gathered m ρ κ c 4 ∗ outPts m ρ c 3 -∗ Q ⟨w1, k0_pay19 (unflat (sumB m ρ (peer c 3)))⟩)
      -∗ run c (k0_part23 xM h0 iM h1 wM h2 oM h3 x2M h4 pM h5 rsM h6 gM h7 agM h8 cc0_scratch5 cc0_scratch6 cc0_scratch7 cc0_scratch8 c w a b d e) Q) := by
  rw [k0_part23_eq_skeleton]; unfold k0_part23_skel
  simp only [semSignalWord, semWaitWord, Prog.lift, Prog.bind_op, Prog.bind_ret, Prog.pure_eq_ret]
  iintro ⟨HG, Ho⟩ Hk
  iapply (step_load_gathered m ρ κ c i2 4 rfl) $$ HG; iintro HG
  iapply (step_load_out m ρ c 2) $$ Ho; iintro %_ Ho
  iapply (step_store_out m ρ c i2 _ (off2_ag c).2.2.2.2.1 _ rfl) $$ Ho; iintro Ho
  iapply (step_gather m ρ κ c i3 3 rfl) $$ HG; iintro HG
  iapply (step_load_gathered m ρ κ c i3 3 rfl) $$ HG; iintro HG
  iapply run_ret
  iapply Hk $$ %_ [HG Ho]
  isplitl [HG]; · iexact HG
  iexact Ho

/-- Row blocks are stored as they arrive, -/
theorem part24 (w a b d : BitVec 32) {Q : PUnit → sProp 𝕄} :
    iprop(gathered m ρ κ c 4 ∗ outPts m ρ c 3) ⊢ iprop((gathered m ρ κ c 5 ∗ outPts m ρ c 5 -∗ Q ⟨⟩)
      -∗ run c (k0_part24 xM h0 iM h1 wM h2 oM h3 x2M h4 pM h5 rsM h6 gM h7 agM h8 cc0_scratch5 cc0_scratch6 cc0_scratch7 cc0_scratch8 c w a b d (k0_pay19 (unflat (sumB m ρ (peer c 3))))) Q) := by
  rw [k0_part24_eq_skeleton]; unfold k0_part24_skel
  simp only [semSignalWord, semWaitWord, Prog.lift, Prog.bind_op, Prog.bind_ret, Prog.pure_eq_ret]
  iintro ⟨HG, Ho⟩ Hk
  iapply (step_load_out m ρ c 3) $$ Ho; iintro %_ Ho
  iapply (step_store_out m ρ c i3 _ (off2_ag c).2.2.2.1 _ rfl) $$ Ho; iintro Ho
  iapply (step_gather m ρ κ c i4 2 rfl) $$ HG; iintro HG
  iapply (step_load_gathered m ρ κ c i4 2 rfl) $$ HG; iintro HG
  iapply (step_load_out m ρ c 4) $$ Ho; iintro %_ Ho
  iapply (step_store_out m ρ c i4 _ (off2_ag c).2.2.1 _ rfl) $$ Ho; iintro Ho
  iapply run_ret
  iapply Hk
  isplitl [HG]; · iexact HG
  iexact Ho

/-- until all seven have arrived. -/
theorem part25 (w a : BitVec 32) {Q : (Σ' (v801 : BitVec 32) (c8_i32_623 : BitVec 32), BitVec 1) → sProp 𝕄} :
    iprop(gathered m ρ κ c 5 ∗ outPts m ρ c 5) ⊢ iprop((∀ w1, gathered m ρ κ c 7 ∗ outPts m ρ c 6 -∗ Q w1)
      -∗ run c (k0_part25 xM h0 iM h1 wM h2 oM h3 x2M h4 pM h5 rsM h6 gM h7 agM h8 cc0_scratch5 cc0_scratch6 cc0_scratch7 cc0_scratch8 c w a) Q) := by
  rw [k0_part25_eq_skeleton]; unfold k0_part25_skel
  simp only [semSignalWord, semWaitWord, Prog.lift, Prog.bind_op, Prog.bind_ret, Prog.pure_eq_ret]
  iintro ⟨HG, Ho⟩ Hk
  iapply (step_gather m ρ κ c i5 1 rfl) $$ HG; iintro HG
  iapply (step_load_gathered m ρ κ c i5 1 rfl) $$ HG; iintro HG
  iapply (step_load_out m ρ c 5) $$ Ho; iintro %_ Ho
  iapply (step_store_out m ρ c i5 _ (off2_ag c).2.1 _ rfl) $$ Ho; iintro Ho
  iapply (step_gather m ρ κ c i6 0 rfl) $$ HG; iintro HG
  iapply run_ret
  iapply Hk $$ %_ [HG Ho]
  isplitl [HG]; · iexact HG
  iexact Ho

/-- The last is stored; the first two transfers of the reduce-scatter have left their sources, -/
theorem part26 (a b : BitVec 32) (e : BitVec 1) {Q : PUnit → sProp 𝕄} :
    iprop(gathered m ρ κ c 7 ∗ outPts m ρ c 6 ∗ waited m ρ c 0 id 0) ⊢ iprop((waited m ρ c 3 rev 7 ∗ outPts m ρ c 7 ∗ drained m ρ κ c 0 2 -∗ Q ⟨⟩)
      -∗ run c (k0_part26 xM h0 iM h1 wM h2 oM h3 x2M h4 pM h5 rsM h6 gM h7 agM h8 cc0_scratch5 cc0_scratch6 cc0_scratch7 cc0_scratch8 c a b e) Q) := by
  rw [k0_part26_eq_skeleton]; unfold k0_part26_skel
  simp only [semSignalWord, semWaitWord, Prog.lift, Prog.bind_op, Prog.bind_ret, Prog.pure_eq_ret]
  iintro ⟨HG, Ho, HW⟩ Hk
  iapply (step_load_gathered m ρ κ c i6 0 rfl) $$ HG; iintro HG
  iapply (step_load_out m ρ c 6) $$ Ho; iintro %_ Ho
  iapply (step_store_out m ρ c i6 _ (off2_ag c).1 _ rfl) $$ Ho; iintro Ho
  unfold gathered
  icases HG with ⟨HO, HG⟩
  iapply (step_drain m ρ κ c 0 i0) $$ [HO HW]
  · unfold drained
    isplitl [HO]; · iexact HO
    iexact HW
  iintro HD
  iapply (step_drain m ρ κ c 0 i1) $$ HD; iintro HD
  iapply run_ret
  iapply Hk
  isplitl [HG]; · iexact HG
  isplitl [Ho]; · iexact Ho
  iexact HD

/-- then three more, -/
theorem part27 {Q : PUnit → sProp 𝕄} :
    drained m ρ κ c 0 2 ⊢ iprop((drained m ρ κ c 0 5 -∗ Q ⟨⟩)
      -∗ run c (k0_part27 xM h0 iM h1 wM h2 oM h3 x2M h4 pM h5 rsM h6 gM h7 agM h8 cc0_scratch5 cc0_scratch6 cc0_scratch7 cc0_scratch8) Q) := by
  rw [k0_part27_eq_skeleton]; unfold k0_part27_skel
  simp only [semSignalWord, semWaitWord, Prog.lift, Prog.bind_op, Prog.bind_ret, Prog.pure_eq_ret]
  iintro HD Hk
  iapply (step_drain m ρ κ c 0 i2) $$ HD; iintro HD
  iapply (step_drain m ρ κ c 0 i3) $$ HD; iintro HD
  iapply (step_drain m ρ κ c 0 i4) $$ HD; iintro HD
  iapply run_ret
  iapply Hk $$ HD

/-- then the last two, and the first three of the all-gather. -/
theorem part28 {Q : PUnit → sProp 𝕄} :
    iprop(drained m ρ κ c 0 5 ∗ waited m ρ c 2 id 0) ⊢ iprop((waited m ρ c 0 id 7 ∗ drained m ρ κ c 2 3 -∗ Q ⟨⟩)
      -∗ run c (k0_part28 xM h0 iM h1 wM h2 oM h3 x2M h4 pM h5 rsM h6 gM h7 agM h8 cc0_scratch5 cc0_scratch6 cc0_scratch7 cc0_scratch8) Q) := by
  rw [k0_part28_eq_skeleton]; unfold k0_part28_skel
  simp only [semSignalWord, semWaitWord, Prog.lift, Prog.bind_op, Prog.bind_ret, Prog.pure_eq_ret]
  iintro ⟨HD, HW⟩ Hk
  iapply (step_drain m ρ κ c 0 i5) $$ HD; iintro HD
  iapply (step_drain m ρ κ c 0 i6) $$ HD; iintro HD
  unfold drained
  icases HD with ⟨HO, HD⟩
  iapply (step_drain m ρ κ c 2 i0) $$ [HO HW]
  · unfold drained
    isplitl [HO]; · iexact HO
    iexact HW
  iintro HE
  iapply (step_drain m ρ κ c 2 i1) $$ HE; iintro HE
  iapply (step_drain m ρ κ c 2 i2) $$ HE; iintro HE
  unfold drained
  iapply run_ret
  iapply Hk
  isplitl [HD]; · iexact HD
  iexact HE

end Parts

end Cert.KernelIdealRun

end
-- ==== Proof.KernelIdealBody.lean ====
/-
# The kernel's program as a whole

From what a device starts with to what it ends with, piece after piece.
-/
module

public import proofs.«01_k».proof.Proof.KernelIdealPartsB

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (κ : Dev nD × Key → ℕ)

/-- A sequence runs if its first piece runs to where the rest does. -/
theorem run_bind (c : Dev nD) {α β : Type} (p : Prog (TpuEff nD τ sig (Elt F) Λ₀ .tc) α) (k : α → Prog (TpuEff nD τ sig (Elt F) Λ₀ .tc) β) (Q : β → sProp 𝕄) :
    run c p (fun a => run c (k a) Q) ⊢ run c (p >>= k) Q := by
  unfold run; rw [wp_bind]

/-- The sum's buffer is read in seven shares; what is left over is kept aside. -/
theorem share_out (c : Dev nD) :
    gPts m ρ c ⊢ iprop(todo 0 (sharedAt m ρ c) ∗ (gM.view.loc (c : Thread nD τ) ↦{Transfers.shareDrop fullShare 7} (sumB m ρ c : Buf (Elt F) (gM.view.loc (c : Thread nD τ))))) := by
  have hone : ∀ j : Fin 7, (gM.view.loc (c : Thread nD τ) ↦{Transfers.shareTok fullShare 7 j} (sumB m ρ c : Buf (Elt F) (gM.view.loc (c : Thread nD τ))) : sProp 𝕄)
      ⊢ sharedAt m ρ c j := by
    intro j
    unfold sharedAt owns
    iintro H
    iexists (sumB m ρ c : Buf (Elt F) (gM.view.loc (c : Thread nD τ)))
    isplitr
    · ipureintro; rfl
    · rw [show gM.view.set = Finset.univ from View.set_whole _]; iexact H
  unfold gPts
  rw [todo_zero]
  refine (Transfers.pointsTo_toks_split (Ix := Unit) (Name := ℕ) (U := UU) (Lvl := ℕ) fullShare 7).trans ?_
  iintro ⟨HR, HT⟩
  isplitl [HT]
  · iapply (show bigSep Finset.univ (fun j : Fin 7 => (gM.view.loc (c : Thread nD τ) ↦{Transfers.shareTok fullShare 7 j} (sumB m ρ c : Buf (Elt F) (gM.view.loc (c : Thread nD τ))) : sProp 𝕄))
      ⊢ bigSep Finset.univ (sharedAt m ρ c) from bigSep_mono fun j _ => hone j)
    iexact HT
  · iexact HR

/-- The positions of the device's waits on the semaphores of array `kd`. -/
def ats (c : Dev nD) (kd : Fin 4) (r : ℕ) : sProp 𝕄 := bigSep Finset.univ fun j => atPos ER (dmaCell c kd j) r ∅ 0

/-- What the sends left is what the waits for them take. -/
theorem drain_open (c : Dev nD) (kd ka : Fin 4) (M : Buf7) :
    iprop(sent (F := F) c kd ka M 7 ∗ ats c kd 0) ⊢ waited m ρ c kd id 0 := by
  unfold sent ats waited
  rw [done_seven, todo_zero, done_zero]
  iintro ⟨⟨-, HC⟩, HA⟩
  isplitl [HC HA]
  · iapply (Entails.of_eq (bigSep_sep' _ _ _).symm)
    isplitl [HC]; · iexact HC
    iexact HA
  · iempintro

/-- What a device starts from. -/
def before (c : Dev nD) : sProp 𝕄 :=
  iprop(signalled m ρ κ c 0 ∗ barWait c ∗ parts c 0 ∗ bigSep Finset.univ (tokens c 0 1) ∗ bigSep Finset.univ (tokens c 2 3)
    ∗ ats c 0 0 ∗ waited m ρ c 1 rev 0 ∗ ats c 2 0 ∗ waited m ρ c 3 rev 0
    ∗ xPts m ρ c ∗ iPts m ρ c ∗ wPts m ρ c ∗ x2Any c ∗ outAny c ∗ gAny c)
/-- What it ends with: nothing owed, every wait done, the result complete. -/
def after (c : Dev nD) : sProp 𝕄 :=
  iprop(core m ρ κ c 7 7 7 ∗ atPos ER (barCell c) 1 ∅ 0
    ∗ waited m ρ c 0 id 7 ∗ waited m ρ c 1 rev 7 ∗ waited m ρ c 2 id 7 ∗ waited m ρ c 3 rev 7
    ∗ xPts m ρ c ∗ iPts m ρ c ∗ wPts m ρ c ∗ maskedPts m ρ c ∗ outPts m ρ c 7
    ∗ (gM.view.loc (c : Thread nD τ) ↦{Transfers.shareDrop fullShare 7} (sumB m ρ c : Buf (Elt F) (gM.view.loc (c : Thread nD τ)))))

section Parts

variable (h0 : xM.IsWhole) (h1 : iM.IsWhole) (h2 : wM.IsWhole) (h3 : oM.IsWhole) (h4 : x2M.IsWhole) (h5 : pM.IsWhole) (h6 : rsM.IsWhole)
  (h7 : gM.IsWhole) (h8 : agM.IsWhole) (c : Dev nD)

set_option maxHeartbeats 1600000 in
/-- The kernel's body takes a device from `before` to `after`. -/
theorem sound (Q : PUnit → sProp 𝕄) :
    before m ρ κ c ⊢ iprop((after m ρ κ c -∗ Q ⟨⟩) -∗ run c (cc0_body xM h0 iM h1 wM h2 oM h3 x2M h4 pM h5 rsM h6 gM h7 agM h8 cc0_scratch5 cc0_scratch6 cc0_scratch7 cc0_scratch8) Q) := by
  rw [cc0_body_eq_skeleton]; unfold cc0_body_skel
  rw [k0_part29_eq_skeleton]; unfold k0_part29_skel
  unfold before
  iintro ⟨H, HB, HP, HT, HT', HA0, HW1, HA2, HW3, Hx, Hi, Hw, H2, Ho, Hg⟩ Hk
  iapply run_bind
  iapply run_bind
  iapply (part1 m ρ κ h0 h1 h2 h3 h4 h5 h6 h7 h8 c) $$ H
  iintro %a1 %b1 %e1 H
  try dsimp only
  iapply run_bind
  iapply (part2 m ρ κ h0 h1 h2 h3 h4 h5 h6 h7 h8 c _ _ _ _) $$ H
  iintro %w2 H
  obtain ⟨w2a, w2b, w2c⟩ := w2
  try dsimp only
  iapply run_bind
  iapply (part3 m ρ κ h0 h1 h2 h3 h4 h5 h6 h7 h8 c _ _ _) $$ [H Hi]
  · isplitl [H]; · iexact H
    iexact Hi
  iintro ⟨H, Hi⟩
  try dsimp only
  iapply run_bind
  iapply (part4 m ρ h0 h1 h2 h3 h4 h5 h6 h7 h8 c _) $$ [Hx Hw H2]
  · isplitl [Hx]; · iexact Hx
    isplitl [Hw]; · iexact Hw
    iexact H2
  iintro ⟨Hx, Hw, Hm⟩
  try dsimp only
  iapply run_bind
  iapply (part5 m ρ κ h0 h1 h2 h3 h4 h5 h6 h7 h8 c _) $$ [H HB HP HT HT']
  · isplitl [H]; · iexact H
    isplitl [HB]; · iexact HB
    isplitl [HP]; · iexact HP
    isplitl [HT]; · iexact HT
    iexact HT'
  iintro %w5 ⟨H, HS', HaB⟩
  obtain ⟨w5a, w5b, w5c, w5d⟩ := w5
  try dsimp only
  iapply run_bind
  iapply (part6 m ρ κ h0 h1 h2 h3 h4 h5 h6 h7 h8 c _ _ _ _) $$ [Hm H]
  · isplitl [Hm]; · iexact Hm
    iexact H
  iintro %w6 ⟨Hm, H⟩
  try dsimp only
  iapply run_bind
  iapply (part7 m ρ κ h0 h1 h2 h3 h4 h5 h6 h7 h8 c _) $$ [Hm H]
  · isplitl [Hm]; · iexact Hm
    iexact H
  iintro %w7 ⟨Hm, H⟩
  obtain ⟨w7a, w7b, w7c, w7d, w7e⟩ := w7
  try dsimp only
  iapply run_bind
  iapply (part8 m ρ κ h0 h1 h2 h3 h4 h5 h6 h7 h8 c _ _ _ _ _ _) $$ [Hm H]
  · isplitl [Hm]; · iexact Hm
    iexact H
  iintro %w8 ⟨Hm, H⟩
  try dsimp only
  iapply run_bind
  iapply (part9 m ρ κ h0 h1 h2 h3 h4 h5 h6 h7 h8 c _) $$ H
  iintro %w9 H
  obtain ⟨w9a, w9b, w9c, w9d⟩ := w9
  try dsimp only
  iapply run_bind
  iapply (part10 m ρ κ h0 h1 h2 h3 h4 h5 h6 h7 h8 c _ _ _ _) $$ [Hm H]
  · isplitl [Hm]; · iexact Hm
    iexact H
  iintro %w10 ⟨Hm, H⟩
  obtain ⟨w10a, w10b, w10c⟩ := w10
  try dsimp only
  iapply run_bind
  iapply (part11 m ρ κ h0 h1 h2 h3 h4 h5 h6 h7 h8 c _ _ _) $$ [Hm H]
  · isplitl [Hm]; · iexact Hm
    iexact H
  iintro %w11 ⟨Hm, H⟩
  try dsimp only
  iapply run_bind
  iapply (part12 m ρ κ h0 h1 h2 h3 h4 h5 h6 h7 h8 c _) $$ [Hm H]
  · isplitl [Hm]; · iexact Hm
    iexact H
  iintro %w12 ⟨Hm, H⟩
  obtain ⟨w12a, w12b, w12c⟩ := w12
  try dsimp only
  iapply run_bind
  iapply (part13 m ρ κ h0 h1 h2 h3 h4 h5 h6 h7 h8 c _ _ _ _ _) $$ [Hm H HW1]
  · isplitl [Hm]; · iexact Hm
    isplitl [H]; · iexact H
    iexact HW1
  iintro %w13 ⟨Hm, HS, HA⟩
  try dsimp only
  iapply run_bind
  iapply (part14 m ρ κ h0 h1 h2 h3 h4 h5 h6 h7 h8 c _ _ _) $$ HA
  iintro %w14 HA
  try dsimp only
  iapply run_bind
  iapply (part15 m ρ κ h0 h1 h2 h3 h4 h5 h6 h7 h8 c _ _ _) $$ HA
  iintro HA
  try dsimp only
  iapply run_bind
  iapply (part16 m ρ κ h0 h1 h2 h3 h4 h5 h6 h7 h8 c _ _) $$ [HA Ho Hg]
  · isplitl [HA]; · iexact HA
    isplitl [Ho]; · iexact Ho
    iexact Hg
  iintro %w16 ⟨HA, Ho, Hg⟩
  obtain ⟨w16a, w16b⟩ := w16
  try dsimp only
  unfold arrived
  icases HA with ⟨HO, HW1⟩
  ihave HZ := (share_out m ρ c) $$ Hg
  icases HZ with ⟨Hg, Hrest⟩
  ihave HG := (show iprop(core m ρ κ c 7 7 0 ∗ sent c 2 3 agM 0 ∗ todo 0 (sharedAt m ρ c)) ⊢ agOut m ρ κ c 0 from .rfl) $$ [HO HS' Hg]
  · isplitl [HO]; · iexact HO
    isplitl [HS']; · iexact HS'
    iexact Hg
  iapply run_bind
  iapply (part17 m ρ κ h0 h1 h2 h3 h4 h5 h6 h7 h8 c _ _ _) $$ HG
  iintro %w17 HG
  obtain ⟨w17a, w17b⟩ := w17
  try dsimp only
  iapply run_bind
  iapply (part18 m ρ κ h0 h1 h2 h3 h4 h5 h6 h7 h8 c _) $$ HG
  iintro %w18 HG
  obtain ⟨w18a, w18b⟩ := w18
  try dsimp only
  iapply run_bind
  iapply (part19 m ρ κ h0 h1 h2 h3 h4 h5 h6 h7 h8 c _ _) $$ HG
  iintro %w19 HG
  obtain ⟨w19a, w19b, w19c⟩ := w19
  try dsimp only
  iapply run_bind
  iapply (part20 m ρ κ h0 h1 h2 h3 h4 h5 h6 h7 h8 c _ _ _) $$ HG
  iintro %w20 HG
  obtain ⟨w20a, w20b⟩ := w20
  try dsimp only
  iapply run_bind
  iapply (part21 m ρ κ h0 h1 h2 h3 h4 h5 h6 h7 h8 c _ _ _) $$ [HG HW3 Ho]
  · isplitl [HG]; · iexact HG
    isplitl [HW3]; · iexact HW3
    iexact Ho
  iintro ⟨HS', HG, Ho⟩
  try dsimp only
  iapply run_bind
  iapply (part22 m ρ κ h0 h1 h2 h3 h4 h5 h6 h7 h8 c _ _) $$ [HG Ho]
  · isplitl [HG]; · iexact HG
    iexact Ho
  iintro %w22 ⟨HG, Ho⟩
  obtain ⟨w22a, w22b, w22c⟩ := w22
  try dsimp only
  iapply run_bind
  iapply (part23 m ρ κ h0 h1 h2 h3 h4 h5 h6 h7 h8 c _ _ _ _ _) $$ [HG Ho]
  · isplitl [HG]; · iexact HG
    iexact Ho
  iintro %w23 ⟨HG, Ho⟩
  try dsimp only
  iapply run_bind
  iapply (part24 m ρ κ h0 h1 h2 h3 h4 h5 h6 h7 h8 c _ _ _ _) $$ [HG Ho]
  · isplitl [HG]; · iexact HG
    iexact Ho
  iintro ⟨HG, Ho⟩
  try dsimp only
  iapply run_bind
  iapply (part25 m ρ κ h0 h1 h2 h3 h4 h5 h6 h7 h8 c _ _) $$ [HG Ho]
  · isplitl [HG]; · iexact HG
    iexact Ho
  iintro %w25 ⟨HG, Ho⟩
  obtain ⟨w25a, w25b, w25c⟩ := w25
  try dsimp only
  ihave HW0 := (drain_open m ρ c 0 1 rsM) $$ [HS HA0]
  · isplitl [HS]; · iexact HS
    iexact HA0
  ihave HW2 := (drain_open m ρ c 2 3 agM) $$ [HS' HA2]
  · isplitl [HS']; · iexact HS'
    iexact HA2
  iapply run_bind
  iapply (part26 m ρ κ h0 h1 h2 h3 h4 h5 h6 h7 h8 c _ _ _) $$ [HG Ho HW0]
  · isplitl [HG]; · iexact HG
    isplitl [Ho]; · iexact Ho
    iexact HW0
  iintro ⟨HW3, Ho, HD⟩
  try dsimp only
  iapply run_bind
  iapply (part27 m ρ κ h0 h1 h2 h3 h4 h5 h6 h7 h8 c) $$ HD
  iintro HD
  try dsimp only
  iapply run_bind
  iapply (part28 m ρ κ h0 h1 h2 h3 h4 h5 h6 h7 h8 c) $$ [HD HW2]
  · isplitl [HD]; · iexact HD
    iexact HW2
  iintro ⟨HW0, HD⟩
  try dsimp only
  simp only [Prog.lift, Prog.bind_op, Prog.bind_ret, Prog.pure_eq_ret]
  iapply (step_drain m ρ κ c 2 i3) $$ HD; iintro HD
  iapply (step_drain m ρ κ c 2 i4) $$ HD; iintro HD
  iapply (step_drain m ρ κ c 2 i5) $$ HD; iintro HD
  iapply run_ret
  dsimp only
  iapply (step_drain m ρ κ c 2 i6) $$ HD; iintro HD
  iapply run_ret
  iapply Hk
  unfold after drained
  icases HD with ⟨HO, HW2⟩
  isplitl [HO]; · iexact HO
  isplitl [HaB]; · iexact HaB
  isplitl [HW0]; · iexact HW0
  isplitl [HW1]; · iexact HW1
  isplitl [HW2]; · iexact HW2
  isplitl [HW3]; · iexact HW3
  isplitl [Hx]; · iexact Hx
  isplitl [Hi]; · iexact Hi
  isplitl [Hw]; · iexact Hw
  isplitl [Hm]; · iexact Hm
  isplitl [Ho]; · iexact Ho
  iexact Hrest

end Parts

end Cert.KernelIdealRun

end
-- ==== Proof.KernelIdealClose.lean ====
/-
# The end of the program

The slots rejoin into whole buffers, every cell closes at zero, and the sixty-four-row blocks make up the result.
-/
module

public import proofs.«01_k».proof.Proof.KernelIdealBody

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (κ : Dev nD × Key → ℕ)

/-! ## The slots of a buffer together are the buffer -/

theorem rect7_disjoint (j j' : Fin 7) (h : j ≠ j') : Disjoint (rect7 j).set (rect7 j').set :=
  Ring.lead_disjoint (s := S7x64x512) (0 : Fin 3) 1 (fun j : Fin 7 => ![j.val, 0, 0]) S1x64x512.size inb7 (fun j => (Nat.one_mul j.val).symm) rfl j j' h
/-- The seven slots make up a whole buffer. -/
theorem rect7_cover : Finset.univ.biUnion (fun j => (rect7 j).set) = Finset.univ :=
  Ring.lead_cover (s := S7x64x512) (0 : Fin 3) 1 (fun j : Fin 7 => ![j.val, 0, 0]) S1x64x512.size inb7 (fun j => (Nat.one_mul j.val).symm)
    (by decide +kernel) rfl (by decide) rfl

/-- The elements of slot `j`. -/
abbrev slotSet (M : Buf7) (j : Fin 7) : Finset M.view.ty.Idx := (slot M j).view.set

/-- Different slots have no element in common. -/
theorem slots_disjoint (M : Buf7) (j j' : Fin 7) (h : j ≠ j') : Disjoint (slotSet M j) (slotSet M j') := by
  unfold slotSet
  rw [slot_set, slot_set]; exact View.disjoint_slice (rect7_disjoint j j' h)
/-- The slots of a buffer are all of it. -/
theorem slots_cover (M : Buf7) (hM : M.view.set = Finset.univ) : Finset.univ.biUnion (slotSet M) = Finset.univ := by
  refine Finset.eq_univ_of_forall fun i => ?_
  have hi : i ∈ M.view.set := by rw [hM]; exact Finset.mem_univ i
  obtain ⟨x, -, rfl⟩ := Finset.mem_map.mp hi
  have hx : x ∈ Finset.univ.biUnion (fun j => (rect7 j).set) := by rw [rect7_cover]; exact Finset.mem_univ x
  obtain ⟨j, -, hj⟩ := Finset.mem_biUnion.mp hx
  refine Finset.mem_biUnion.mpr ⟨j, Finset.mem_univ j, ?_⟩
  unfold slotSet
  rw [slot_set, show (M.access (rect7 j)).set = (rect7 j).set.map M.view.emb from View.set_slice ..]
  exact Finset.mem_map_of_mem _ hj

/-- A seven-slot buffer at any contents. -/
def bufAny (M : Buf7) (c : Dev nD) : sProp 𝕄 := iprop(∃ f : Buf (Elt F) (M.view.loc (c : Thread nD τ)), M.view.loc (c : Thread nD τ) ↦{fullShare} f)

/-- A whole buffer is dealt out as its slots, -/
theorem slots_split (M : Buf7) (hM : M.view.set = Finset.univ) (c : Dev nD) : bufAny (F := F) M c ⊢ bigSep Finset.univ (slotAny M c) := by
  have h1 : ∀ (f : Buf (Elt F) (M.view.loc (c : Thread nD τ))) (j : Fin 7),
      (M.view.loc (c : Thread nD τ) ↦[slotSet M j]{fullShare} f : sProp 𝕄) ⊢ slotAny M c j := by
    intro f j
    unfold slotAny
    iintro H
    iexists f; iexact H
  unfold bufAny
  iintro ⟨%f, H⟩
  ihave H := (Entails.of_eq (Ring.pointsTo_blocks (ℓ := M.view.loc (c : Thread nD τ)) (slotSet M) (slots_disjoint M) (slots_cover M hM) f)) $$ H
  iapply (show bigSep Finset.univ (fun j => (M.view.loc (c : Thread nD τ) ↦[slotSet M j]{fullShare} f : sProp 𝕄)) ⊢ bigSep Finset.univ (slotAny M c)
    from bigSep_mono fun j _ => h1 f j)
  iexact H

/-- and put together from them. -/
theorem slots_join (M : Buf7) (hM : M.view.set = Finset.univ) (c : Dev nD) (f₀ : Buf (Elt F) (M.view.loc (c : Thread nD τ))) :
    bigSep Finset.univ (slotAny (F := F) M c) ⊢ bufAny M c :=
  Ring.pointsTo_blocks_join_exists (ℓ := M.view.loc (c : Thread nD τ)) (slotSet M) (slots_disjoint M) (slots_cover M hM) f₀

/-- What a slot holds may be forgotten. -/
theorem slotAt_any (M : Buf7) (c : Dev nD) (j : Fin 7) (X : Vec F S64x512 .bf16) : slotAt M c j X ⊢ slotAny M c j := by
  unfold slotAt slotAny owns
  iintro ⟨%f, -, H⟩
  iexists f; iexact H

/-! ## The result -/

theorem rect8_cover : Finset.univ.biUnion (fun b => (rect8 b).set) = Finset.univ :=
  Ring.lead_cover (s := S512x512) (0 : Fin 2) 64 (fun b : Fin 8 => ![64 * b.val, 0]) S64x512.size inb8 (fun _ => rfl)
    (by decide +kernel) rfl (by decide) rfl

/-- Every element of the result lies in a row block. -/
theorem in_block (i : S512x512.Idx) : ∃ b : Dev nD, ∃ x : (rect8 b).shape.Idx, (rect8 b).emb x = i := by
  have hi : i ∈ Finset.univ.biUnion (fun b : Dev nD => (rect8 b).set) := by rw [rect8_cover]; exact Finset.mem_univ i
  obtain ⟨b, -, hb⟩ := Finset.mem_biUnion.mp hi
  obtain ⟨x, hx⟩ := View.exists_of_mem_set_slice (v := oM.view) (r := rect8 b) (i := i) (by rw [View.set_slice]; exact Finset.mem_map.mpr ⟨i, hb, rfl⟩)
  exact ⟨b, x, hx⟩

/-- The row block an element of the result lies in, and its place there. -/
def blk (i : S512x512.Idx) : Dev nD := (in_block i).choose
def inBlk (i : S512x512.Idx) : S64x512.Idx := (in_block i).choose_spec.choose
/-- An element is found in its row block at its place there. -/
theorem blk_emb (i : S512x512.Idx) : (rect8 (blk i)).emb (inBlk i) = i := (in_block i).choose_spec.choose_spec

/-- The result of device `c`: in every row block the sum of the eight partial products. -/
def outAt (c : Dev nD) : (cc0_stg3_0 : Ref sig .tc).ty.Contents (Elt F) := fun i => blockOut m ρ c (blk i) (inBlk i)

/-- A device's row block is its own or a peer's. -/
theorem self_or_peer (c b : Dev nD) : b = c ∨ ∃ i : Fin 7, i.val < 7 ∧ b = peer c (rev i) := by revert c b; decide +kernel

/-- When all eight row blocks are stored, the buffer holds the whole result. -/
theorem out_complete (c : Dev nD) : outPts m ρ c 7 ⊢ (oM.view.loc (c : Thread nD τ) ↦{fullShare} (outAt m ρ c : Buf (Elt F) (oM.view.loc (c : Thread nD τ)))) := by
  unfold outPts
  iintro ⟨%g, %hg, H⟩
  have he : g = outAt m ρ c := by
    funext i
    have hb := hg (blk i) (self_or_peer c (blk i))
    have hx := congrFun hb (inBlk i)
    unfold outAt
    rw [← hx]
    show g i = g ((rect8 (blk i)).emb (inBlk i))
    rw [blk_emb]
  subst he
  iexact H

/-! ## Every cell is closed -/

theorem persist_mono {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A cell whose round is over is back at zero. -/
theorem close_cell (c : Dev nD) (k : Key) : iprop(know m ρ κ ∗ atPos ER (kcell (c, k)) 1 ∅ 0) ⊢ |={Set.univ}=> semVal (kcell (c, k)) 0 := by
  iintro ⟨#K, HA⟩
  ihave HI := (know_cell m ρ κ c k) $$ K
  icases HI with ⟨#HI, -⟩
  iapply (Rounds.cell_close ER (Rd m ρ) (Set.mem_univ (κ (c, k))) (fun h => h) (R := 0 + 1) (duties_later m ρ (kcell (c, k))))
  isplitr; · iexact HI
  iexact HA

/-- The same of the seven cells of one kind. -/
theorem close_dma (c : Dev nD) (kd : Fin 4) :
    iprop(know m ρ κ ∗ bigSep Finset.univ fun j => atPos ER (dmaCell c kd j) 1 ∅ 0) ⊢ |={Set.univ}=> bigSep Finset.univ fun j => semVal (dmaCell c kd j) 0 :=
  (persist_mono (R := know m ρ κ) fun j _ => close_cell m ρ κ c (.inr (kd, j))).trans (bigSep_fupd _ _)

/-- After all seven waits the array's payloads and its cells' last positions are there, in whatever order they came. -/
theorem waited_seven (c : Dev nD) (kd : Fin 4) (σ : Fin 7 ≃ Fin 7) :
    waited m ρ c kd σ 7 ⊢ iprop(bigSep Finset.univ (dmaPay m ρ c kd) ∗ bigSep Finset.univ fun j => atPos ER (dmaCell c kd j) 1 ∅ 0) := by
  unfold waited
  rw [done_seven, bigSep_univ_equiv σ (dmaPay m ρ c kd), bigSep_univ_equiv σ (fun j => atPos ER (dmaCell c kd j) 1 ∅ 0), ← bigSep_sep']
  iintro ⟨-, H⟩
  iexact H

def revEquiv : Fin 7 ≃ Fin 7 := ⟨rev, rev, rev_rev, rev_rev⟩

/-- The shares of the sum's buffer rejoin. -/
theorem share_in (c : Dev nD) :
    iprop(bigSep Finset.univ (sharedAt m ρ c) ∗ (gM.view.loc (c : Thread nD τ) ↦{Transfers.shareDrop fullShare 7} (sumB m ρ c : Buf (Elt F) (gM.view.loc (c : Thread nD τ)))))
      ⊢ gAny c := by
  have hone : ∀ j : Fin 7, sharedAt m ρ c j ⊢ (gM.view.loc (c : Thread nD τ) ↦{Transfers.shareTok fullShare 7 j} (sumB m ρ c : Buf (Elt F) (gM.view.loc (c : Thread nD τ))) : sProp 𝕄) := by
    intro j
    unfold sharedAt owns
    rw [show gM.view.set = Finset.univ from View.set_whole _]
    iintro ⟨%f, %hf, H⟩
    have he : f = sumB m ρ c := hf
    subst he
    iexact H
  iintro ⟨HT, HR⟩
  unfold gAny
  iexists (sumB m ρ c : Buf (Elt F) (gM.view.loc (c : Thread nD τ)))
  iapply (Transfers.pointsTo_toks_join (Ix := Unit) (Name := ℕ) (U := UU) (Lvl := ℕ) fullShare 7)
  isplitl [HR]; · iexact HR
  iapply (show bigSep Finset.univ (sharedAt m ρ c) ⊢ bigSep Finset.univ (fun j : Fin 7 => (gM.view.loc (c : Thread nD τ) ↦{Transfers.shareTok fullShare 7 j} (sumB m ρ c : Buf (Elt F) (gM.view.loc (c : Thread nD τ))) : sProp 𝕄))
      from bigSep_mono fun j _ => hone j)
  iexact HT

/-- The device's own semaphores and the barrier's at zero, nothing owed, the scratch buffers whole. -/
def closed (c : Dev nD) : sProp 𝕄 :=
  iprop(semVal (barCell c) 0 ∗ (bigSep Finset.univ fun kj : Fin 4 × Fin 7 => semVal (dmaCell c kj.1 kj.2) 0)
    ∗ x2Any c ∗ bufAny pM c ∗ bufAny rsM c ∗ gAny c ∗ bufAny agM c)

/-- A product over the four kinds of cells, written out. -/
theorem four (Φ : Fin 4 → sProp 𝕄) : bigSep Finset.univ Φ = iprop(Φ 0 ∗ Φ 1 ∗ Φ 2 ∗ Φ 3) := bigSep_univ_eq_bigSepL [0, 1, 2, 3] (by decide) (by decide) Φ

/-- At the end of the body all the cells are back at zero and nothing is owed. -/
theorem close_all (c : Dev nD) :
    after m ρ κ c ⊢ |={Set.univ}=> iprop(closed c ∗ (∃ W : Waits sig Unit, owes (c : Thread nD τ) 0 W)
      ∗ xPts m ρ c ∗ iPts m ρ c ∗ wPts m ρ c ∗ (oM.view.loc (c : Thread nD τ) ↦{fullShare} (outAt m ρ c : Buf (Elt F) (oM.view.loc (c : Thread nD τ))))) := by
  unfold after core
  rw [owed_seven]
  iintro ⟨⟨#K, HO⟩, HB, H0, H1, H2, H3, Hx, Hi, Hw, Hm, Ho, Hg⟩
  ihave H0 := (show waited m ρ c 0 id 7 ⊢ _ from waited_seven m ρ c 0 (Equiv.refl _)) $$ H0
  ihave H1 := (show waited m ρ c 1 rev 7 ⊢ _ from waited_seven m ρ c 1 revEquiv) $$ H1
  ihave H2 := (show waited m ρ c 2 id 7 ⊢ _ from waited_seven m ρ c 2 (Equiv.refl _)) $$ H2
  ihave H3 := (show waited m ρ c 3 rev 7 ⊢ _ from waited_seven m ρ c 3 revEquiv) $$ H3
  icases H0 with ⟨P0, A0⟩
  icases H1 with ⟨P1, A1⟩
  icases H2 with ⟨P2, A2⟩
  icases H3 with ⟨P3, A3⟩
  imod (close_cell m ρ κ c (.inl ())) $$ [HB] with ZB
  · isplitr; · iexact K
    iexact HB
  imod (close_dma m ρ κ c 0) $$ [A0] with Z0
  · isplitr; · iexact K
    iexact A0
  imod (close_dma m ρ κ c 1) $$ [A1] with Z1
  · isplitr; · iexact K
    iexact A1
  imod (close_dma m ρ κ c 2) $$ [A2] with Z2
  · isplitr; · iexact K
    iexact A2
  imod (close_dma m ρ κ c 3) $$ [A3] with Z3
  · isplitr; · iexact K
    iexact A3
  imodintro
  isplitr [HO Hx Hi Hw Ho]
  · unfold closed
    isplitl [ZB]; · iexact ZB
    isplitl [Z0 Z1 Z2 Z3]
    · rw [bigSep_univ_prod, four]
      isplitl [Z0]; · iexact Z0
      isplitl [Z1]; · iexact Z1
      isplitl [Z2]; · iexact Z2
      iexact Z3
    isplitl [Hm]
    · unfold maskedPts x2Any
      iexists _; iexact Hm
    isplitl [P0]
    · iapply ((show bigSep Finset.univ (dmaPay m ρ c 0) ⊢ bigSep Finset.univ (slotAny pM c) from bigSep_mono fun j _ => slotAt_any pM c j _).trans (slots_join pM (View.set_whole _) c (fun _ => default)))
      iexact P0
    isplitl [P1]
    · iapply ((show bigSep Finset.univ (dmaPay m ρ c 1) ⊢ bigSep Finset.univ (slotAny rsM c) from bigSep_mono fun j _ => slotAt_any rsM c j _).trans (slots_join rsM (View.set_whole _) c (fun _ => default)))
      iexact P1
    isplitl [P2 Hg]
    · iapply (share_in m ρ c)
      isplitl [P2]; · iexact P2
      iexact Hg
    · iapply ((show bigSep Finset.univ (dmaPay m ρ c 3) ⊢ bigSep Finset.univ (slotAny agM c) from bigSep_mono fun j _ => slotAt_any agM c j _).trans (slots_join agM (View.set_whole _) c (fun _ => default)))
      iexact P3
  · isplitl [HO]; · iexact HO
    isplitl [Hx]; · iexact Hx
    isplitl [Hi]; · iexact Hi
    isplitl [Hw]; · iexact Hw
    iapply (out_complete m ρ c); iexact Ho

end Cert.KernelIdealRun

end
-- ==== Proof.KernelIdealStart.lean ====
/-
# The start of a device, and what its program owes the launch

The ghost state each device is dealt, the buffers it is given, and the statement of the body in the form the launch asks for.
-/
module

public import proofs.«01_k».proof.Proof.KernelIdealClose
public import proofs.«01_k».proof.Proof.Gen.KernelIdeal.Points

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (κ : Dev nD × Key → ℕ)

/-! ## What a device starts from and ends with -/

def records : sProp 𝕄 := bigSep Finset.univ (fun ck : Dev nD × Key => iprop(cellInv ER (Rd m ρ) (κ ck) (kcell ck) ∗ reached ER (kcell ck) 0))
instance records_persistent : BI.Persistent (records m ρ κ) := by unfold records; infer_instance

/-- The tokens of the duties device `c` pays. -/
def payToks (c : Dev nD) : sProp 𝕄 :=
  iprop((bigSep Finset.univ fun j => dutyTok ER (barCell (peer c j)) 0 (rev j)) ∗ bigSep Finset.univ (tokens c 0 1) ∗ bigSep Finset.univ (tokens c 2 3))
def linear (c : Dev nD) : sProp 𝕄 := iprop((bigSep Finset.univ fun k : Key => atPos ER (kcell (c, k)) 0 ∅ 0) ∗ payToks (F := F) c)
/-- A device's share of the ghost state. -/
def G' (c : Dev nD) : sProp 𝕄 := iprop(∃ κ, records m ρ κ ∗ linear c)
def arrivalCreds (c : Dev nD) (k : Fin 4) : sProp 𝕄 := bigSep Finset.univ fun s : Fin 7 => cred (tallyAt (dmaCell c k s) () N)
def start (c : Dev nD) : sProp 𝕄 :=
  iprop(G' m ρ c ∗ (cred (tallyAt (barCell c) () 7) ∗ arrivalCreds (F := F) c 1 ∗ arrivalCreds (F := F) c 3) ∗ levAts L lv)

def scratch (c : Dev nD) : sProp 𝕄 := iprop(x2Any c ∗ bufAny (F := F) pM c ∗ bufAny (F := F) rsM c ∗ gAny c ∗ bufAny (F := F) agM c)
def Φ₀ (c : Dev nD) : sProp 𝕄 := iprop(start m ρ c ∗ scratch c)

/-- The call has one grid step. -/
theorem cfg0_N : cfg0.N = 1 := by decide
def t₀ : Fin cfg0.N := ⟨0, by rw [cfg0_N]; decide⟩
/-- Every grid step is that one. -/
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => istg m ρ c
    | ⟨2, _⟩ => wstg m ρ c
    | ⟨3, _⟩ => outAt m ρ c
  Φ t := match t with
    | ⟨0, _⟩ => Φ₀ m ρ c
    | ⟨_ + 1, _⟩ => closed c
  q _ := fullShare
  owed t := match t with
    | ⟨0, _⟩ => owed c 0 0 0
    | ⟨_ + 1, _⟩ => 0

/-- Owning a whole buffer at a value is holding that value there. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body meets the pipeline's obligation -/

theorem revSep (Φ : Fin 7 → sProp 𝕄) : bigSep Finset.univ Φ = bigSep Finset.univ fun j => Φ (rev j) := bigSep_univ_equiv revEquiv Φ

/-- A product over a device's cells, kind by kind. -/
theorem key_sep (Φ : Key → sProp 𝕄) :
    bigSep Finset.univ Φ ⊢ iprop(Φ (.inl ()) ∗ (bigSep Finset.univ fun j => Φ (.inr (0, j))) ∗ (bigSep Finset.univ fun j => Φ (.inr (1, j)))
      ∗ (bigSep Finset.univ fun j => Φ (.inr (2, j))) ∗ (bigSep Finset.univ fun j => Φ (.inr (3, j)))) := by
  rw [BI.bigSep_univ_sum, bigSep_univ_prod, four]
  exact sep_mono_left (bigSep_elim (Finset.mem_univ ()))

/-- At first no landing has been waited for. -/
theorem waited_start (c : Dev nD) (k : Fin 4) :
    iprop(arrivalCreds (F := F) c k ∗ bigSep Finset.univ fun j => atPos ER (dmaCell c k j) 0 ∅ 0) ⊢ waited m ρ c k rev 0 := by
  unfold arrivalCreds waited
  rw [todo_zero, done_zero, bigSep_sep' _ _ _, ← revSep (fun j => cred (tallyAt (dmaCell c k j) () N)), ← revSep (fun j => atPos ER (dmaCell c k j) 0 ∅ 0)]
  iintro ⟨H1, H2⟩
  isplitl
  · isplitl [H1] <;> iassumption
  · iempintro

/-- All that the kernel starts from. -/
theorem start_before (c : Dev nD) :
    iprop((records m ρ κ ∗ linear (F := F) c) ∗ (cred (tallyAt (barCell c) () 7) ∗ arrivalCreds (F := F) c 1 ∗ arrivalCreds (F := F) c 3) ∗ levAts L lv
        ∗ scratch (F := F) c ∗ (∃ W : Waits sig Unit, owes (c : Thread nD τ) (owed c 0 0 0) W) ∗ xPts m ρ c ∗ iPts m ρ c ∗ wPts m ρ c ∗ outAny (F := F) c)
      ⊢ before m ρ κ c := by
  unfold linear payToks scratch before signalled core know records barWait ats parts
  rw [todo_zero, todo_zero]
  iintro ⟨⟨HR, HA, HtB, Ht1, Ht2⟩, ⟨Hc, Hc1, Hc3⟩, HL, ⟨Hx2, Hp, Hr, Hg, Hag⟩, HO, Hx, Hi, Hw, Hout⟩
  ihave HA := (key_sep (fun k : Key => atPos ER (kcell (c, k)) 0 ∅ 0)) $$ HA
  icases HA with ⟨HaB, Ha0, Ha1, Ha2, Ha3⟩
  ihave Hp := (slots_split pM (View.set_whole _) c) $$ Hp
  ihave Hr := (slots_split rsM (View.set_whole _) c) $$ Hr
  ihave Hag := (slots_split agM (View.set_whole _) c) $$ Hag
  isplitl [HR HL HO HtB Hr Hag]
  · isplitl [HR HL HO]
    · isplitl [HR HL]
      · isplitl [HR]; · iexact HR
        iexact HL
      · iexact HO
    · unfold sigRes
      rw [bigSep_sep' _ _ _, bigSep_sep' _ _ _]
      isplitl [HtB]; · iexact HtB
      isplitl [Hr] <;> iassumption
  isplitl [Hc HaB]
  · isplitl [Hc]; · iexact Hc
    iexact HaB
  isplitl [Hp]; · iexact Hp
  isplitl [Ht1]; · iexact Ht1
  isplitl [Ht2]; · iexact Ht2
  isplitl [Ha0]; · iexact Ha0
  isplitl [Hc1 Ha1]
  · iapply (waited_start m ρ c 1); isplitl [Hc1]; · iexact Hc1
    iexact Ha1
  isplitl [Ha2]; · iexact Ha2
  isplitl [Hc3 Ha3]
  · iapply (waited_start m ρ c 3); isplitl [Hc3]; · iexact Hc3
    iexact Ha3
  isplitl [Hx]; · iexact Hx
  isplitl [Hi]; · iexact Hi
  isplitl [Hw]; · iexact Hw
  isplitl [Hx2]; · iexact Hx2
  isplitl [Hout]; · iexact Hout
  iexact Hg

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(closed (F := F) c ∗ (dats m ρ 0 c).owesAt () t₀.succ
    ∗ stg c cc0_stg0_0 (xstg m ρ c) ∗ stg c cc0_stg1_0 (istg m ρ c) ∗ stg c cc0_stg2_0 (wstg m ρ c) ∗ stg c cc0_stg3_0 (outAt m ρ c))

/-- What a device is given at the start of the body is the body's first state. -/
theorem open_body (c : Dev nD) : bodyPre m ρ c ⊢ iprop(∃ κ, before m ρ κ c) := by
  unfold bodyPre Φ₀ start G' Dat.owesAt Pipeline.owesWithin
  rw [show (dats m ρ 0 c).owed t₀.castSucc = owed c 0 0 0 from rfl]
  iintro ⟨⟨⟨⟨%κ, HG⟩, Hc, HL⟩, Hs⟩, ⟨%W, %hW, HO⟩, ⟨%d0, %g0, %hg0, Hx⟩, ⟨%d1, %g1, %hg1, Hi⟩, ⟨%d2, %g2, %hg2, Hw⟩, ⟨%d3, %g3, %hg3, Ho⟩⟩
  have hx : g0 = xstg m ρ c := by rw [hg0]; unfold Dat.before; rw [if_pos (fetch0_0 t₀)]; rfl
  have hi : g1 = istg m ρ c := by rw [hg1]; unfold Dat.before; rw [if_pos (fetch0_1 t₀)]; rfl
  have hw : g2 = wstg m ρ c := by rw [hg2]; unfold Dat.before; rw [if_pos (fetch0_2 t₀)]; rfl
  subst hx hi hw
  iexists κ
  iapply (start_before m ρ κ c)
  isplitl [HG]; · iexact HG
  isplitl [Hc]; · iexact Hc
  isplitl [HL]; · iexact HL
  isplitl [Hs]; · iexact Hs
  isplitl [HO]; · iexists W; iexact HO
  isplitl [Hx]; · unfold xPts; iexact Hx
  isplitl [Hi]; · unfold iPts; iexact Hi
  isplitl [Hw]; · unfold wPts; iexact Hw
  unfold outAny
  iexists g3; iexact Ho

/-- The body's last state gives what is asked for at its end. -/
theorem close_body (c : Dev nD) : after m ρ κ c ⊢ |={Set.univ}=> bodyPost m ρ c := by
  refine (close_all m ρ κ c).trans (BI.fupd_mono ?_)
  unfold bodyPost xPts iPts wPts Dat.owesAt Pipeline.owesWithin
  rw [show (dats m ρ 0 c).owed t₀.succ = 0 from rfl]
  iintro ⟨HC, ⟨%W, HO⟩, Hx, Hi, Hw, Ho⟩
  isplitl [HC]; · iexact HC
  isplitl [HO]
  · iexists W
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Ho

/-- An update may follow a run. -/
theorem run_fupd (c : Dev nD) {α : Type} {Q Q' : α → sProp 𝕄} (p : Prog (TpuEff nD τ sig (Elt F) Λ₀ .tc) α) (h : ∀ a, Q' a ⊢ |={Set.univ}=> Q a) :
    run c p Q' ⊢ run c p Q := by
  unfold run
  exact (wp_mono _ _ _ h).trans (wp_fupd _ _ _ _ _)

set_option maxRecDepth 8000 in
/-- The body does what the call's single grid step has to do. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ run c (cc0_body xM (Memref.isWhole_whole _) iM (Memref.isWhole_whole _) wM (Memref.isWhole_whole _) oM (Memref.isWhole_whole _)
      x2M (Memref.isWhole_whole _) pM (Memref.isWhole_whole _) rsM (Memref.isWhole_whole _) gM (Memref.isWhole_whole _) agM (Memref.isWhole_whole _)
      cc0_scratch5 cc0_scratch6 cc0_scratch7 cc0_scratch8) (fun _ => bodyPost m ρ c)
  iintro H
  ihave H := (open_body m ρ c) $$ H
  icases H with ⟨%κ, H⟩
  iapply (run_fupd (Q' := fun _ => after m ρ κ c) c _ (fun _ => close_body m ρ κ c))
  iapply (sound m ρ κ _ _ _ _ _ _ _ _ _ c) $$ H
  iintro H
  iexact H

end Cert.KernelIdealRun

end
-- ==== Proof.KernelIdealLaunch.lean ====
/-
# The launch of the eight devices

The cells and their tokens are made, dealt out, and the run of the whole program is concluded.
-/
module

public import proofs.«01_k».proof.Proof.KernelIdealStart
public import Idealize.ShloMosaic.Lib.Pipeline.CollectiveSegs

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state at launch -/

theorem ownSemFacts : Pipeline.OwnSemFacts cfg0.spec osem := by decide +kernel

/-- Every operand is held whole. -/
theorem share_eq (c : Dev nD) (w : Fin cfg0.W) : (dats m ρ 0 c).share w = fullShare := by unfold Dat.share; split <;> rfl

/-- Different devices and keys have different cells. -/
theorem kcell_injective : Function.Injective (kcell : Dev nD × Key → GSem nD τ sig) := by
  rintro ⟨c, k⟩ ⟨c', k'⟩ h
  have h1 : c = c' := congrArg (fun g : GSem nD τ sig => g.1.1) h
  have h2 : k = k' := ksem_inj (congrArg Prod.snd h)
  rw [h1, h2]
def allCells : Finset (GSem nD τ sig) := Finset.univ.map ⟨kcell, kcell_injective⟩

/-- A device's own duties: seven at its barrier, one at each transfer semaphore. -/
abbrev Duty := Fin 7 ⊕ (Fin 4 × Fin 7)
def keyOf : Duty → Key
  | .inl _ => .inl ()
  | .inr kj => .inr kj
def numOf : Duty → Fin 7
  | .inl i => i
  | .inr _ => 0
/-- A duty is its cell and its number. -/
theorem duty_ext {x y : Duty} (h : keyOf x = keyOf y) (h' : numOf x = numOf y) : x = y := by
  rcases x with x | x <;> rcases y with y | y
  · exact congrArg Sum.inl h'
  · exact absurd h (fun h => by cases h)
  · exact absurd h (fun h => by cases h)
  · exact congrArg Sum.inr (Sum.inr.inj h)
def tokOf (cx : Dev nD × Duty) : GSem nD τ sig × ℕ × Fin 7 := (kcell (cx.1, keyOf cx.2), 0, numOf cx.2)
/-- Different duties have different tokens. -/
theorem tokOf_injective : Function.Injective tokOf := by
  rintro ⟨c, x⟩ ⟨c', x'⟩ h
  have h1 := kcell_injective (congrArg Prod.fst h)
  have h2 : c = c' := congrArg Prod.fst h1
  have h3 : x = x' := duty_ext (congrArg Prod.snd h1) (congrArg (fun y : GSem nD τ sig × ℕ × Fin 7 => y.2.2) h)
  rw [h2, h3]
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The tokens of device `c`'s own duties. -/
def toks (c : Dev nD) : sProp 𝕄 :=
  iprop((bigSep Finset.univ fun i : Fin 7 => dutyTok ER (barCell c) 0 i) ∗ bigSep Finset.univ fun kj : Fin 4 × Fin 7 => dutyTok ER (dmaCell c kj.1 kj.2) 0 0)

def G (c : Dev nD) : sProp 𝕄 :=
  iprop((bigSep Finset.univ fun k : Key => roundState ER (Rd m ρ) (kcell (c, k)) 0)
    ∗ (bigSep Finset.univ fun k : Key => iprop(atPos ER (kcell (c, k)) 0 ∅ 0 ∗ reached ER (kcell (c, k)) 0)) ∗ toks (F := F) c)

/-- A product over all cells, device by device. -/
theorem cells_sep (Φ : GSem nD τ sig → sProp 𝕄) :
    bigSep allCells Φ = bigSep Finset.univ fun c : Dev nD => bigSep Finset.univ fun k : Key => Φ (kcell (c, k)) := by
  unfold allCells; rw [bigSep_map, bigSep_univ_prod]; rfl

/-- All tokens, device by device. -/
theorem toks_sep : bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [BI.bigSep_univ_sum]; rfl

/-- The protocol's ghost state gives every device its cells' beginnings. -/
theorem fund_cells : BI.own (ER (initOf allCells allToks)) ⊢ (|==> bigSep Finset.univ (G m ρ) : sProp 𝕄) := by
  iintro HX
  imod (Rounds.fund ER (Rd m ρ) allCells allToks) $$ HX with ⟨Hst, Hr, Hat, Htok⟩
  imodintro
  ihave Hst := (Entails.of_eq (cells_sep fun g => roundState ER (Rd m ρ) g 0)) $$ Hst
  ihave Hat := (Entails.of_eq (cells_sep fun g => atPos ER g 0 ∅ 0)) $$ Hat
  ihave Hr := (Entails.of_eq (cells_sep fun g => reached ER g 0)) $$ Hr
  ihave Htok := (Entails.of_eq toks_sep) $$ Htok
  unfold G; simp only [bigSep_sep']
  isplitl [Hst]; · iexact Hst
  isplitl [Hat Hr]
  · isplitl [Hat]; · iexact Hat
    iexact Hr
  iexact Htok

/-- The barrier is the one semaphore that outlives the call. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores, the barrier's and the kernel's own, are its cells' counters. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (kcell (c, k)) 0 : sProp 𝕄) := by
  rw [unscopedSems0_eq, BI.bigSep_univ_sum]
  unfold Pipeline.ownSems0
  show _ ⊢ iprop((bigSep Finset.univ fun a : Unit => semVal (kcell (c, .inl a)) 0) ∗ bigSep Finset.univ fun b : Fin 4 × Fin 7 => semVal (kcell (c, .inr b)) 0)
  iintro ⟨HO, HB⟩
  isplitl [HB]
  · rw [show (Finset.univ : Finset Unit) = {()} from rfl, bigSep_singleton]; iexact HB
  · iexact HO

/-- A device's semaphores at zero become the cells of the protocol. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0 (F := F) c) $$ [Hos Hus]
  · isplitl [Hos]; · iexact Hos
    iexact Hus
  imod (show iprop((bigSep Finset.univ fun k : Key => semVal (kcell (c, k)) 0) ∗ bigSep Finset.univ fun k : Key => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## The tokens go to the devices that pay them -/

/-- Peer `j` of device `c`, and the number by which that peer calls `c`. -/
def around : Dev nD × Fin 7 ≃ Dev nD × Fin 7 where
  toFun cj := (peer cj.1 cj.2, rev cj.2)
  invFun cj := (peer cj.1 cj.2, rev cj.2)
  left_inv cj := by revert cj; decide +kernel
  right_inv cj := by revert cj; decide +kernel

/-- Going over all devices and slots from the receivers' side is the same as from the senders'. -/
theorem sep_around (Φ : Dev nD → Fin 7 → sProp 𝕄) :
    (bigSep Finset.univ fun c => bigSep Finset.univ (Φ c)) = bigSep Finset.univ fun c => bigSep Finset.univ fun j => Φ (peer c j) (rev j) := by
  rw [← bigSep_univ_prod (fun cj : Dev nD × Fin 7 => Φ cj.1 cj.2), ← bigSep_univ_prod (fun cj : Dev nD × Fin 7 => Φ (peer cj.1 cj.2) (rev cj.2)),
    bigSep_univ_equiv around]
  rfl

/-- Each token goes to the device that pays it. -/
theorem toks_dealt : (bigSep Finset.univ fun c : Dev nD => (toks c : sProp 𝕄)) ⊢ bigSep Finset.univ fun c : Dev nD => payToks c := by
  unfold toks payToks tokens
  simp only [bigSep_sep', bigSep_univ_prod, four]
  rw [sep_around (fun c i => (dutyTok ER (barCell c) 0 i : sProp 𝕄)),
    sep_around (fun c j => (dutyTok ER (dmaCell c 1 j) 0 0 : sProp 𝕄)), sep_around (fun c j => (dutyTok ER (dmaCell c 3 j) 0 0 : sProp 𝕄))]
  iintro ⟨HB, H0, H1, H2, H3⟩
  isplitl [HB]; · iexact HB
  isplitl [H0 H1]
  · isplitl [H0]; · iexact H0
    iexact H1
  · isplitl [H2]; · iexact H2
    iexact H3

/-- What the devices made singly, put together so that each knows all cells. -/
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Key => iprop(∃ κ : ℕ, cellInv ER (Rd m ρ) κ (kcell ck))),
    bigSep_congr (s := Finset.univ) (fun (c : Dev nD) _ => bigSep_sep' Finset.univ (fun k : Key => (atPos ER (kcell (c, k)) 0 ∅ 0 : sProp 𝕄)) (fun k => reached ER (kcell (c, k)) 0)),
    bigSep_sep', ← bigSep_univ_prod (fun ck : Dev nD × Key => (reached ER (kcell ck) 0 : sProp 𝕄))]
  iintro ⟨HI, ⟨Hat, HR⟩, Htok⟩
  ihave HK := (BI.bigSep_exists_pi Finset.univ (fun (ck : Dev nD × Key) (κ : ℕ) => (cellInv ER (Rd m ρ) κ (kcell ck) : sProp 𝕄))) $$ HI
  icases HK with ⟨%κ, HI⟩
  ihave Htk := (toks_dealt (F := F)) $$ Htok
  iapply (persist_mono (R := records m ρ κ) (Φ := fun c => linear c) fun c _ => show iprop(records m ρ κ ∗ linear c) ⊢ G' m ρ c from by
    unfold G'; iintro H; iexists κ; iexact H)
  isplitl [HI HR]
  · unfold records; rw [bigSep_sep']
    isplitl [HI]; · iexact HI
    iexact HR
  · unfold linear; rw [bigSep_sep']
    isplitl [Hat]; · iexact Hat
    iexact Htk

/-- The start of all devices at once: the cells are made and the tokens dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

abbrev O₀ (c : Dev nD) : CellTallies nD τ sig Unit := owed c 0 0 0

/-- Two cells are the same when device and key are. -/
theorem kcell_eq_iff {c c' : Dev nD} {k k' : Key} : kcell (c, k) = kcell (c', k') ↔ c = c' ∧ k = k' :=
  ⟨fun h => ⟨congrArg Prod.fst (kcell_injective h), congrArg Prod.snd (kcell_injective h)⟩, fun ⟨h, h'⟩ => by rw [h, h']⟩

/-- What seven signals add up to at a cell. -/
theorem sum_tally (cell : Fin 7 → Dev nD × Key) (n : ℕ) (ck : Dev nD × Key) :
    (∑ j : Fin 7, (tallyAt (kcell (cell j)) () n : CellTallies nD τ sig Unit)) (kcell ck) () = ∑ j : Fin 7, (if ck = cell j then 1 else 0) * n := by
  rw [Finset.sum_apply, Finsupp.finset_sum_apply]
  refine Finset.sum_congr rfl fun j _ => ?_
  rw [tallyAt_apply]
  by_cases h : ck = cell j
  · rw [if_pos h, if_pos ⟨congrArg kcell h, rfl⟩, Nat.one_mul]
  · rw [if_neg h, if_neg fun h' => h (kcell_injective h'.1), Nat.zero_mul]

/-- What a device owes a cell, counted. -/
theorem owed_at (d : Dev nD) (ck : Dev nD × Key) :
    O₀ d (kcell ck) () = (∑ j : Fin 7, (if ck = (peer d j, .inl ()) then 1 else 0) * 1) + (∑ j : Fin 7, (if ck = (peer d j, .inr (1, rev j)) then 1 else 0) * N)
      + ∑ j : Fin 7, (if ck = (peer d j, .inr (3, rev j)) then 1 else 0) * N := by
  unfold O₀ owed owedBar owedIn
  rw [show (Finset.univ.filter fun j : Fin 7 => 0 ≤ j.val) = Finset.univ by decide]
  rw [Pi.add_apply, Finsupp.add_apply, Pi.add_apply, Finsupp.add_apply]
  exact congrArg₂ _ (congrArg₂ _ (sum_tally (fun j => (peer d j, .inl ())) 1 ck) (sum_tally (fun j => (peer d j, .inr (1, rev j))) N ck))
    (sum_tally (fun j => (peer d j, .inr (3, rev j))) N ck)

/-- How often a cell is named among the seven signals or transfers of all devices. -/
def times (f : Fin 7 → Key) (ck : Dev nD × Key) : ℕ := ∑ d : Dev nD, ∑ j : Fin 7, if ck = (peer d j, f j) then 1 else 0

/-- What all devices together owe to a cell. -/
theorem owed_all (ck : Dev nD × Key) :
    ∑ d : Dev nD, O₀ d (kcell ck) () = times (fun _ => .inl ()) ck + times (fun j => .inr (1, rev j)) ck * N + times (fun j => .inr (3, rev j)) ck * N := by
  unfold times
  simp only [owed_at, Finset.sum_add_distrib, Finset.sum_mul, Nat.mul_one]

/-- A barrier is signalled seven times; -/
theorem times_bar (c : Dev nD) : times (fun _ => .inl ()) (c, .inl ()) = 7 ∧ times (fun j => .inr (1, rev j)) (c, .inl ()) = 0 ∧ times (fun j => .inr (3, rev j)) (c, .inl ()) = 0 := by
  revert c; decide +kernel
/-- a receive cell once. -/
theorem times_in (c : Dev nD) (s : Fin 7) :
    (times (fun _ => .inl ()) (c, .inr (1, s)) = 0 ∧ times (fun j => .inr (1, rev j)) (c, .inr (1, s)) = 1 ∧ times (fun j => .inr (3, rev j)) (c, .inr (1, s)) = 0)
    ∧ (times (fun _ => .inl ()) (c, .inr (3, s)) = 0 ∧ times (fun j => .inr (1, rev j)) (c, .inr (3, s)) = 0 ∧ times (fun j => .inr (3, rev j)) (c, .inr (3, s)) = 1) := by
  revert c s; decide +kernel

/-- What is owed to a cell is what its owner may wait for: -/
theorem launch_at (ck : Dev nD × Key) (n : ℕ) (h : ∑ d : Dev nD, O₀ d (kcell ck) () = n) :
    tallyOn (kcell ck) (launchCredit (Pipeline.owing O₀) 0 (kcell ck)) = (tallyAt (kcell ck) () n : CellTallies nD τ sig Unit) := by
  unfold tallyAt; refine congrArg _ (Finsupp.ext fun u => ?_); cases u
  rw [Pipeline.launchCredit_owing, Finsupp.single_eq_same, h]

/-- seven units at the barrier, -/
theorem launch_bar (c : Dev nD) :
    tallyOn (barCell c) (launchCredit (Pipeline.owing O₀) 0 (barCell c)) = (tallyAt (barCell c) () 7 : CellTallies nD τ sig Unit) :=
  launch_at (c, .inl ()) 7 (by obtain ⟨h1, h2, h3⟩ := times_bar c; rw [owed_all, h1, h2, h3, Nat.zero_mul])
/-- a slot's at a receive cell of the reduce-scatter, -/
theorem launch_rs (c : Dev nD) (s : Fin 7) :
    tallyOn (dmaCell c 1 s) (launchCredit (Pipeline.owing O₀) 0 (dmaCell c 1 s)) = (tallyAt (dmaCell c 1 s) () N : CellTallies nD τ sig Unit) :=
  launch_at (c, .inr (1, s)) N (by obtain ⟨⟨h1, h2, h3⟩, -⟩ := times_in c s; rw [owed_all, h1, h2, h3, Nat.one_mul, Nat.zero_mul, Nat.zero_add, Nat.add_zero])
/-- and at one of the all-gather. -/
theorem launch_ag (c : Dev nD) (s : Fin 7) :
    tallyOn (dmaCell c 3 s) (launchCredit (Pipeline.owing O₀) 0 (dmaCell c 3 s)) = (tallyAt (dmaCell c 3 s) () N : CellTallies nD τ sig Unit) :=
  launch_at (c, .inr (3, s)) N (by obtain ⟨-, h1, h2, h3⟩ := times_in c s; rw [owed_all, h1, h2, h3, Nat.one_mul, Nat.zero_mul, Nat.zero_add])

/-- The credits that a device gets at launch. -/
theorem creds (c : Dev nD) :
    (Pipeline.launchCred O₀ c : sProp 𝕄) ⊢ iprop(cred (tallyAt (barCell c) () 7) ∗ arrivalCreds c 1 ∗ arrivalCreds c 3) := by
  unfold Pipeline.launchCred
  refine (BI.bigSep_subset (Finset.subset_univ (Finset.univ.map ⟨ksem, ksem_inj⟩))).trans ?_
  rw [bigSep_map]
  refine (key_sep _).trans ?_
  unfold arrivalCreds
  rw [← launch_bar, ← bigSep_congr fun s _ => congrArg cred (launch_rs c s), ← bigSep_congr fun s _ => congrArg cred (launch_ag c s)]
  iintro ⟨HB, -, H1, -, H3⟩
  isplitl [HB]; · iexact HB
  isplitl [H1]; · iexact H1
  iexact H3

/-! ## The conditions of the launch -/

/-- The router's weights, which the kernel does not touch. -/
def untouched (c : Dev nD) : sProp 𝕄 := iprop(((c : Thread nD τ).loc main_arg1) ↦{fullShare} (m ((c : Thread nD τ).loc main_arg1)))

/-- What the launch leaves to a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ untouched m c) := by
  rw [Pipeline.unscopedRestP_none, unscopedRest0_eq]
  iintro ⟨Hu, Hlev, Hcr, -, HG⟩
  ihave Hc := (creds (F := F) c) $$ Hcr
  imodintro
  unfold start untouched
  isplitl [HG Hc Hlev]
  · isplitl [HG]; · iexact HG
    isplitl [Hc]; · iexact Hc
    iexact Hlev
  · iexact Hu

/-- The same with the scratch buffers. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What the body leaves gives the semaphores at zero and the scratch buffers back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = closed c from rfl, scopedRest0_eq, unscopedSems0_eq]
  unfold closed Pipeline.ownSems0
  iintro ⟨HB, HZ, Hr⟩
  isplitl [HB]; · iexact HB
  isplitl [HZ]; · iexact HZ
  iexact Hr

/-- A wait for a staged operand is allowed while the device owes its signals. -/
theorem mayWait_stage (c : Dev nD) (q : DmaSem sig) (hq : ∀ k : Key, ksem k ≠ .dma q) (O : CellTallies nD τ sig Unit) (hO : O = O₀ c ∨ O = 0) :
    (levAts L lv : sProp 𝕄) ⊢ MayWait (c : Thread nD τ) (.dma q) () O := by
  have hz : lv ((c : Thread nD τ), .dma q) () = 0 := by
    unfold lv findKey
    rw [dif_neg fun ⟨k, hk⟩ => hq k hk]
    rfl
  rcases hO with rfl | rfl
  · exact mayWait_of c (.dma q) 0 0 0 (fun _ => by rw [hz]; decide) (fun _ => by rw [hz]; decide) (fun _ => by rw [hz]; decide)
  · rw [← owed_seven c]
    exact mayWait_of c (.dma q) 7 7 7 (fun _ => by rw [hz]; decide) (fun _ => by rw [hz]; decide) (fun _ => by rw [hz]; decide)

/-- All waits for staged operands are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- From any memory with zero counters every weakly fair execution ends, each window's array at its final contents, the
    router's weights unchanged and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := untouched m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold untouched
      iintro ⟨Hu, Hz, HSI⟩
      icombine HSI Hz gives %h
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ h⟩
      iexact HSI)
    (hQ := fun _ h hs => ⟨fun c => ⟨fun w => (h c).1 w, (h c).2.2.2⟩, sem_eq_zero hs fun c => (h c).2.2.1⟩)

/-- A staged argument's array holds at the end what it held. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

/-- The result's array holds at the end what the body left. -/
theorem finalA_out (c : Dev nD) : finalA m ρ c (3 : Fin 4) = outAt m ρ c := by
  have h : (win0_3.blk (0 : Fin 1)).view.read (Elt F) (finalA m ρ c (3 : Fin 4)) = outAt m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  have hz : (fun a => (win0_3.index (0 : Fin 1)) a * main_v1.ty.shape.size a) = fun _ => 0 := funext fun a => by fin_cases a <;> decide
  rw [← h]
  exact (Memref.read_access_unit_zero (Elt F) main_v1 hz (fun a => by fin_cases a <;> decide) _).symm

/-- What is staged is the argument itself. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
/-- The staged routes are the routes; -/
theorem istg_eq (c : Dev nD) : istg m ρ c = m ((c : Thread nD τ).loc main_arg2) := by
  have hz : (fun a => (win0_1.index (0 : Fin 1)) a * main_arg2.ty.shape.size a) = fun _ => 0 := funext fun a => by fin_cases a <;> decide
  exact Memref.read_access_unit_zero (Elt F) main_arg2 hz (fun a => by fin_cases a <;> decide) _
/-- the staged weights are the device's part of the weights. -/
theorem wstg_eq (c : Dev nD) : wstg m ρ c = m ((c : Thread nD τ).loc main_arg3) := by
  have hz : (fun a => (win0_2.index (0 : Fin 1)) a * main_arg3.ty.shape.size a) = fun _ => 0 := funext fun a => by fin_cases a <;> decide
  exact Memref.read_access_unit_zero (Elt F) main_arg3 hz (fun a => by fin_cases a <;> decide) _

/-- The run, read at the program's arguments and result. -/
theorem run_final : θ_run defs (onTc (τ := τ) (main (F := F))) ⟨m, fun _ => 0, ρ⟩ (fun r => (∀ c : Dev nD,
      r.2.mem ((c : Thread nD τ).loc main_v1) = (outAt m ρ c : Buf (Elt F) ((c : Thread nD τ).loc main_v1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => by
    obtain ⟨hw, h1⟩ := h.1 c
    exact ⟨(hw (3 : Fin 4)).trans (finalA_out m ρ c), (hw (0 : Fin 4)).trans (finalA_in m ρ c 0 rfl), h1,
      (hw (1 : Fin 4)).trans (finalA_in m ρ c 1 rfl), (hw (2 : Fin 4)).trans (finalA_in m ρ c 2 rfl)⟩, h.2⟩) (run_main m ρ)

end Cert.KernelIdealRun

end
-- ==== Proof.KernelIdealValue.lean ====
/-
# The result as a sum over the experts

Over the extended reals every element of a device's result is the sum, over the sixteen experts, of the token's
product with that expert's weights where the token is routed to it and of zero elsewhere.
-/
module

public import proofs.«01_k».proof.Proof.KernelIdealLaunch
public import Idealize.ShloMosaic.Lib.Pointwise
public import Idealize.ShloMosaic.Lib.Layout

@[expose] public section

noncomputable section

namespace Cert.KernelIdealRun

open Cert.KernelIdeal Cert.KernelIdeal.Gen
open Idealize.ShloMosaic Idealize.ShloMosaic.TcCoe

set_option maxRecDepth 16384

/-! ## The stored values at an index -/

/-- Choosing by an equality test is a case distinction on the equality. -/
theorem select_eq {α : Type} (a b : BitVec 32) (x y : α) :
    Scalar.select (IntOp.cmpi CmpIPredicate.eq a b) x y = if a = b then x else y := by
  by_cases h : a = b <;> simp [Scalar.select, IntOp.cmpi, h, beq_eq_false_iff_ne.mpr]

/-- The masked tokens: the left half keeps the tokens of expert `e`, the right half those of the next one. -/
theorem masked_read (e : BitVec 32) (v : Vec Ideal S512x1 .i32) (x : Vec Ideal S512x256 .f32) (t k : Fin 512) :
    (k0_pay1 (F := Ideal) e v x (ix2 t k) : EReal)
      = if h : k.val < 256 then (if v (ix2 t 0) = e then x (ix2 t ⟨k.val, h⟩) else 0)
        else (if v (ix2 t 0) = Scalar.addi e 1#32 then x (ix2 t ⟨k.val - 256, by omega⟩) else 0) := by
  pointwise [k0_pay1]
  simp only [select_eq]

/-- The weights: the two experts' matrices one under the other. -/
theorem weights_read (w : Vec Ideal S2x256x512 .f32) (k o : Fin 512) :
    (k0_pay2 (F := Ideal) w (ix2 k o) : EReal)
      = w (ix3 (⟨k.val / 256, by omega⟩ : Fin 2) (⟨k.val % 256, by omega⟩ : Fin 256) o) := by
  pointwise [k0_pay2]

/-- The product a device keeps. -/
theorem own_read (w : FVec Ideal S512x512 .bf16) (r : Vec Ideal S64x512 .bf16) (a : Fin 64) (o : Fin 512) :
    k0_pay10 (F := Ideal) w r (ix2 a o) = ∑ k : Fin 512, r (ix2 a k) * w (ix2 k o) := by
  pointwise [k0_pay10]

/-- The product a device sends. -/
theorem part_read (w : FVec Ideal S512x512 .bf16) (r : Vec Ideal S64x512 .bf16) (a : Fin 64) (o : Fin 512) :
    flat (F := Ideal) (k0_pay4 w r) (ix2 a o) = ∑ k : Fin 512, r (ix2 a k) * w (ix2 k o) := by
  pointwise [flat, k0_pay4]

/-- The accumulated sum of a device's own product `p` and the seven received ones. -/
theorem sum_read (p : FVec Ideal S64x512 .f32) (f : Fin 7 → FVec Ideal S64x512 .bf16) (a : Fin 64) (o : Fin 512) :
    k0_pay14 (F := Ideal) (k0_pay13 (k0_pay12 p (k0_pay11 (unflat (f 6))) (unflat (f 5)) (unflat (f 4))) (unflat (f 3)) (unflat (f 2)))
      (unflat (f 1)) (unflat (f 0)) (ix2 a o) = p (ix2 a o) + ∑ s, f s (ix2 a o) := by
  pointwise [k0_pay11, k0_pay12, k0_pay13, k0_pay14, unflat]
  simp only [Fin.sum_univ_seven]
  ac_rfl

/-- Sending the sum to another device changes no value. -/
theorem sent_read (q : FVec Ideal S64x512 .f32) (u v : Vec Ideal S1x64x512 .bf16) (a : Fin 64) (o : Fin 512) :
    k0_pay16 (F := Ideal) (unflat (k0_pay15 q u v)) (ix2 a o) = k0_pay14 (F := Ideal) q u v (ix2 a o) := by
  pointwise [k0_pay15, k0_pay16, unflat]

/-! ## A row block as a sum over the devices -/

variable (m : (ℓ : Loc nD τ sig) → Buf (Elt Ideal) ℓ) (ρ : Dev nD → PrngReg)

/-- The row of the whole array that row `a` of block `b` is. -/
def rowOf (b : Dev nD) (a : Fin 64) : Fin 512 := ⟨64 * b.val + a.val, by have := b.isLt; have : nD = 8 := rfl; omega⟩

/-- Row `a` of row block `b` of the masked tokens. -/
theorem rows_read (c b : Dev nD) (a : Fin 64) (k : Fin 512) :
    (rows m ρ c b (ix2 a k) : EReal) = masked m ρ c (ix2 (rowOf b a) k) := by
  refine congrArg (masked m ρ c) (funext fun x => Fin.ext ?_)
  fin_cases x
  · show 64 * b.val + 1 * a.val = 64 * b.val + a.val
    omega
  · show 0 + 1 * k.val = k.val
    omega

/-- Device `d`'s share of an element of the result. -/
def share (d : Dev nD) (t o : Fin 512) : EReal :=
  ∑ k : Fin 512, (masked m ρ d (ix2 t k) : EReal) * (weights m ρ d (ix2 k o) : EReal)

/-- A sum over the devices is a device's own term and its seven peers' terms. -/
theorem sum_devices (f : Dev nD → EReal) (c : Dev nD) : ∑ d, f d = f c + ∑ s, f (peer c s) := by
  have hb : Function.Bijective (fun u : Option (Fin 7) => u.elim c (peer c)) := by
    revert c; decide +kernel
  rw [← (Equiv.ofBijective _ hb).sum_comp, Fintype.sum_option]
  rfl

/-- The sum a device forms of its row block adds the shares of all eight devices. -/
theorem sumF_read (c : Dev nD) (a : Fin 64) (o : Fin 512) :
    (sumF m ρ c (ix2 a o) : EReal) = ∑ d, share m ρ d (rowOf c a) o := by
  have hs (s : Fin 7) : (inc m ρ c s (ix2 a o) : EReal) = share m ρ (peer c s) (rowOf c a) o := by
    unfold inc part share
    rw [part_read, peer_peer]
    simp only [rows_read]
  have h0 : (k0_pay10 (F := Ideal) (weights m ρ c) (rows m ρ c c) (ix2 a o) : EReal) = share m ρ c (rowOf c a) o := by
    rw [own_read]; simp only [rows_read]; rfl
  rw [sum_devices _ c, ← h0]
  simp only [← hs]
  exact sum_read _ (inc m ρ c) a o

/-- Every row block of every device's result adds the shares of all eight devices. -/
theorem blockOut_read (c b : Dev nD) (a : Fin 64) (o : Fin 512) :
    (blockOut m ρ c b (ix2 a o) : EReal) = ∑ d, share m ρ d (rowOf b a) o := by
  rw [← sumF_read]
  by_cases h : b = c
  · subst h; simp only [blockOut, if_true]
  · simp only [blockOut, if_neg h]; exact sent_read _ _ _ _ _

/-- An element of a device's result adds the shares of all eight devices. -/
theorem outAt_read (c : Dev nD) (t o : Fin 512) : (outAt m ρ c (ix2 t o) : EReal) = ∑ d, share m ρ d t o := by
  have h := blk_emb (ix2 t o)
  unfold outAt
  generalize blk (ix2 t o) = b at h ⊢
  generalize inBlk (ix2 t o) = j at h ⊢
  obtain ⟨a, o', rfl⟩ : ∃ (a : Fin 64) (o' : Fin 512), j = ix2 a o' := ⟨j 0, j 1, eq_ix2 j⟩
  have h0 : rowOf b a = t := Fin.ext (by
    have := congrArg (fun i : S512x512.Idx => (i 0).val) h
    have hv : 64 * b.val + 1 * a.val = t.val := this
    show 64 * b.val + a.val = t.val
    omega)
  have h1 : o' = o := Fin.ext (by
    have := congrArg (fun i : S512x512.Idx => (i 1).val) h
    have hv : 0 + 1 * o'.val = o.val := this
    omega)
  rw [blockOut_read, h0, h1]

/-! ## A device's share: its two experts -/

/-- What expert `e` contributes to an element of the result. -/
def expert (X : Vec Ideal S512x256 .f32) (I : Vec Ideal S512x1 .i32) (W : Vec Ideal ⟨3, ![16, 256, 512]⟩ .f32) (t o : Fin 512) (e : Fin 16) : EReal :=
  if I (ix2 t 0) = BitVec.ofNat 32 e.val then ∑ k : Fin 256, (X (ix2 t k) : EReal) * (W (ix3 e k o) : EReal) else 0

/-- A product of a row kept or cleared is the product kept or cleared. -/
theorem sum_ite (p : Prop) [Decidable p] (x w : Fin 256 → EReal) :
    ∑ k, (if p then x k else 0) * w k = if p then ∑ k, x k * w k else 0 := by
  split <;> simp

/-- The experts of device `d` are number `2 d` and number `2 d + 1`. -/
theorem firstExpert_eq (d : Dev nD) : firstExpert d = BitVec.ofNat 32 (2 * d.val) ∧ Scalar.addi (BitVec.ofNat 32 (2 * d.val)) 1#32 = BitVec.ofNat 32 (2 * d.val + 1) := by
  revert d; decide +kernel

/-- The two experts of a device. -/
def fst (d : Dev nD) : Fin 16 := ⟨2 * d.val, by have := d.isLt; have : nD = 8 := rfl; omega⟩
def snd (d : Dev nD) : Fin 16 := ⟨2 * d.val + 1, by have := d.isLt; have : nD = 8 := rfl; omega⟩

variable (X : Vec Ideal S512x256 .f32) (I : Vec Ideal S512x1 .i32) (W : Vec Ideal ⟨3, ![16, 256, 512]⟩ .f32)

/-- A device's share is what its two experts contribute. -/
theorem share_experts (d : Dev nD) (hx : m ((d : Thread nD τ).loc main_arg0) = X) (hi : m ((d : Thread nD τ).loc main_arg2) = I)
    (hw : m ((d : Thread nD τ).loc main_arg3) = Layout.block ⟨3, ![2, 256, 512]⟩ ⟨3, ![16, 256, 512]⟩ 0 8 d W) (t o : Fin 512) :
    share m ρ d t o = expert X I W t o (fst d) + expert X I W t o (snd d) := by
  unfold share masked weights
  rw [xstg_eq, istg_eq, wstg_eq, hx, hi, hw, Fin.sum_univ_two_halves 256 256 rfl]
  simp only [masked_read, weights_read, (firstExpert_eq d).1, (firstExpert_eq d).2]
  refine congrArg₂ (· + ·) ?_ ?_
  · refine Eq.trans ?_ (sum_ite (I (ix2 t 0) = BitVec.ofNat 32 (fst d).val) (fun k => X (ix2 t k)) (fun k => W (ix3 (fst d) k o)))
    refine Finset.sum_congr rfl fun k _ => ?_
    rw [dif_pos k.isLt]
    refine congrArg₂ (· * ·) rfl (congrArg W (funext fun x => Fin.ext ?_))
    fin_cases x <;> simp [Layout.Tiles.idx_val, fst] <;> omega
  · refine Eq.trans ?_ (sum_ite (I (ix2 t 0) = BitVec.ofNat 32 (snd d).val) (fun k => X (ix2 t k)) (fun k => W (ix3 (snd d) k o)))
    refine Finset.sum_congr rfl fun k _ => ?_
    rw [dif_neg (by omega)]
    refine congrArg₂ (· * ·) ?_ (congrArg W (funext fun x => Fin.ext ?_))
    · simp only [Nat.add_sub_cancel_left]; rfl
    · fin_cases x <;> simp [Layout.Tiles.idx_val, snd] <;> omega

/-- The sixteen experts, two by two. -/
theorem sum_experts (f : Fin 16 → EReal) : ∑ d, (f (fst d) + f (snd d)) = ∑ e, f e := by
  have hb : Function.Bijective (fun u : Dev nD ⊕ Dev nD => Sum.elim fst snd u) := by decide +kernel
  rw [← (Equiv.ofBijective _ hb).sum_comp, Fintype.sum_sum_type, Finset.sum_add_distrib]
  rfl

/-- Every element of every device's result is the sum of what the sixteen experts contribute. -/
theorem outAt_experts (hx : ∀ d : Dev nD, m ((d : Thread nD τ).loc main_arg0) = X) (hi : ∀ d : Dev nD, m ((d : Thread nD τ).loc main_arg2) = I)
    (hw : ∀ d : Dev nD, m ((d : Thread nD τ).loc main_arg3) = Layout.block ⟨3, ![2, 256, 512]⟩ ⟨3, ![16, 256, 512]⟩ 0 8 d W)
    (c : Dev nD) (t o : Fin 512) : (outAt m ρ c (ix2 t o) : EReal) = ∑ e, expert X I W t o e := by
  have h : ∑ d, share m ρ d t o = ∑ e, expert X I W t o e := by
    rw [← sum_experts (expert X I W t o)]
    exact Finset.sum_congr rfl fun d _ => share_experts m ρ X I W d (hx d) (hi d) (hw d) t o
  exact (outAt_read m ρ c t o).trans h

end Cert.KernelIdealRun

end
-- ==== Proof.ReferenceIdealValue.lean ====
/-
# The reference's result as a sum over the experts

The reference chooses, for each token, the product with the weights of the expert it is routed to; a token routed to
no expert gets zero. As the sixteen experts have different numbers, that choice is the sum over the experts of the
product where the token is routed to the expert and of zero elsewhere.
-/
module

public import proofs.«01_k».proof.Proof.Gen.ReferenceIdeal.Run
public import proofs.«01_k».proof.Proof.KernelIdealValue

@[expose] public section

noncomputable section

namespace Cert.ReferenceIdealRun

open Cert.ReferenceIdeal Cert.ReferenceIdeal.Gen
open Idealize.ShloMosaic Idealize.ShloMosaic.TcCoe

/-- The value of the first `n` choices, a later one taking precedence. -/
def chain (i : BitVec 32) (f : ℕ → EReal) : ℕ → EReal
  | 0 => 0
  | n + 1 => Scalar.select (IntOp.cmpi CmpIPredicate.eq i (BitVec.ofNat 32 n)) (f n) (chain i f n)

/-- If no number below `n` is chosen, the choices leave zero. -/
theorem chain_zero (i : BitVec 32) (f : ℕ → EReal) (n : ℕ) (h : ∀ e < n, i ≠ BitVec.ofNat 32 e) : chain i f n = 0 := by
  induction n with
  | zero => rfl
  | succ n ih =>
    rw [chain, KernelIdealRun.select_eq, if_neg (h n (Nat.lt_succ_self n))]
    exact ih fun e he => h e (Nat.lt_succ_of_lt he)

/-- The choices are a sum in which at most one term is not cleared. -/
theorem chain_sum (i : BitVec 32) (f : ℕ → EReal) (n : ℕ) (hn : n ≤ 2 ^ 32) :
    chain i f n = ∑ e : Fin n, if i = BitVec.ofNat 32 e.val then f e.val else 0 := by
  induction n with
  | zero => simp [chain]
  | succ n ih =>
    rw [Fin.sum_univ_castSucc, chain, KernelIdealRun.select_eq]
    simp only [Fin.val_castSucc, Fin.val_last]
    rw [← ih (by omega)]
    by_cases h : i = BitVec.ofNat 32 n
    · rw [if_pos h, if_pos h, chain_zero i f n, zero_add]
      intro e he hc
      have := congrArg BitVec.toNat (h.symm.trans hc)
      rw [BitVec.toNat_ofNat, BitVec.toNat_ofNat, Nat.mod_eq_of_lt (by omega), Nat.mod_eq_of_lt (by omega)] at this
      omega
    · rw [if_neg h, if_neg h, add_zero]

set_option maxRecDepth 16384 in
/-- Every element of the reference's result is the sum of what the sixteen experts contribute. -/
theorem result_experts (m : (ℓ : Loc nD τ sig) → Buf (Elt Ideal) ℓ) (c : Dev nD) (t o : Fin 512) :
    (Value.res_main_v96 m c : FVec Ideal S512x512 .f32) (ix2 t o)
      = ∑ e, KernelIdealRun.expert (m ((c : Thread nD τ).loc main_arg0)) (m ((c : Thread nD τ).loc main_arg2))
          (m ((c : Thread nD τ).loc main_arg3)) t o e := by
  let X : Vec Ideal S512x256 .f32 := m ((c : Thread nD τ).loc main_arg0)
  let W : Vec Ideal S16x256x512 .f32 := m ((c : Thread nD τ).loc main_arg3)
  let I : Vec Ideal S512x1 .i32 := m ((c : Thread nD τ).loc main_arg2)
  have h := chain_sum (I (ix2 t 0)) (fun e => ∑ k : Fin 256, X (ix2 t k) * W (ix3 (Fin.ofNat 16 e) k o)) 16 (by decide)
  refine Eq.trans ?_ (h.trans (Finset.sum_congr rfl fun e _ => ?_))
  · unfold Value.res_main_v96
    pointwise
    rfl
  · simp only [KernelIdealRun.expert, Fin.ofNat_val_eq_self]; rfl

end Cert.ReferenceIdealRun

end
-- ==== Proof.lean ====
/-
# The claims, put together

The two frames of the kernel come from its run (`run_final`, proved for any reading of the floats), the frame of the
reference from its own run. That both give the same result is read off element by element: each side is the sum,
over the sixteen experts, of what that expert contributes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.KernelIdealValue
public import proofs.«01_k».proof.Proof.ReferenceIdealValue
public import Idealize.ShloMosaic.Adequacy
public import Idealize.ShloMosaic.Init

@[expose] public section

noncomputable section

namespace Cert.Proof

open Idealize.ShloMosaic Idealize.SL.Sem Cert.Kernel

/-- The kernel ends with its arguments unchanged and its semaphores at zero. -/
theorem kernel_frame : Cert.quiescent_Kernel := fun m g _ =>
  (θ_run _ _ _).mono (fun _ h => ⟨fun c => (h.1 c).2, h.2⟩) (Cert.KernelRun.run_final (F := Bits) m g)

/-- The same of the kernel over the extended reals. -/
theorem kernelIdeal_frame : Cert.quiescent_KernelIdeal := fun m g _ =>
  (θ_run _ _ _).mono (fun _ h => ⟨fun c => (h.1 c).2, h.2⟩) (Cert.KernelIdealRun.run_final (F := Ideal) m g)

/-- The same of the reference. -/
theorem referenceIdeal_frame : Cert.quiescent_ReferenceIdeal := fun m g _ =>
  (θ_run _ _ _).mono (fun r h => ⟨fun c => (h c).2, sem_eq_zero_of_no_sems (by decide) r.2⟩) (Cert.ReferenceIdeal.Value.run m g)

/-- On every device the kernel's result is the reference's. -/
theorem same_result : Cert.algebraic_KernelIdeal_ReferenceIdeal := fun m g m' g' _ hargs => by
  refine ⟨Cert.ReferenceIdeal.Value.res_main_v96 m' 0, (θ_run _ _ _).mono (fun r h c => ⟨(h.1 c).1.trans ?_, (h.1 c).2⟩)
    (Cert.KernelIdealRun.run_final (F := Ideal) m g), (θ_run _ _ _).mono (fun r h => h 0) (Cert.ReferenceIdeal.Value.run m' g')⟩
  funext i
  rw [eq_ix2 i]
  exact (Cert.KernelIdealRun.outAt_experts m g _ _ _ (fun d => (hargs d).1) (fun d => (hargs d).2.2.1) (fun d => (hargs d).2.2.2) c _ _).trans
    (Cert.ReferenceIdealRun.result_experts m' 0 _ _).symm

/-- Everything claimed. -/
theorem claim : Cert.Claim := ⟨Cert.Kernel.Gen.facts, Cert.KernelIdeal.Gen.facts, Cert.ReferenceIdeal.Gen.facts,
  kernel_frame, kernelIdeal_frame, referenceIdeal_frame, trivial, same_result⟩

end Cert.Proof

end
